-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![2, 2048, 16, 64]⟩ ⟨4, ![2, 2048, 64, 64]⟩ (Layout.meshBlock [2, 4, 4] ![[], [], [1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4096]⟩ ⟨2, ![4096, 4096]⟩ (Layout.meshBlock [2, 4, 4] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.blockN ⟨3, ![2, 512, 4096]⟩ ⟨3, ![2, 2048, 4096]⟩ (Layout.meshBlock [2, 4, 4] ![[], [1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x2048x16x64 : Shape := ⟨4, ![2, 2048, 16, 64]⟩
abbrev S1024x4096 : Shape := ⟨2, ![1024, 4096]⟩
abbrev S4096x1024 : Shape := ⟨2, ![4096, 1024]⟩
abbrev S2x512x4096 : Shape := ⟨3, ![2, 512, 4096]⟩
abbrev S3x2x512x4096 : Shape := ⟨4, ![3, 2, 512, 4096]⟩
abbrev S3x2 : Shape := ⟨2, ![3, 2]⟩
abbrev S_ : Shape := ⟨0, ![]⟩
abbrev S512x1024 : Shape := ⟨2, ![512, 1024]⟩
abbrev S1024x1024 : Shape := ⟨2, ![1024, 1024]⟩
abbrev S1x1x512x4096 : Shape := ⟨4, ![1, 1, 512, 4096]⟩
abbrev S512x4096 : Shape := ⟨2, ![512, 4096]⟩
abbrev S1x1x512x1024 : Shape := ⟨4, ![1, 1, 512, 1024]⟩
abbrev S1x1 : Shape := ⟨2, ![1, 1]⟩
abbrev S1x512x4096 : Shape := ⟨3, ![1, 512, 4096]⟩
abbrev S1x512x1024 : Shape := ⟨3, ![1, 512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2x2048x16x64, .bf16⟩
  | .hbm, ⟨1, _⟩ => ⟨S1024x4096, .bf16⟩
  | .hbm, ⟨2, _⟩ => ⟨S4096x1024, .bf16⟩
  | .hbm, ⟨3, _⟩ => ⟨S2x512x4096, .bf16⟩
  | .hbm, ⟨4, _⟩ => ⟨S2x512x4096, .f32⟩
  | .local _ .vmem, ⟨0, _⟩ => ⟨S4096x1024, .bf16⟩
  | .local _ .vmem, ⟨1, _⟩ => ⟨S1024x4096, .bf16⟩
  | .local _ .vmem, ⟨2, _⟩ => ⟨S2x512x4096, .bf16⟩
  | .local _ .vmem, ⟨3, _⟩ => ⟨S3x2x512x4096, .bf16⟩
  | .local _ .vmem, ⟨4, _⟩ => ⟨S2x512x4096, .bf16⟩
  | _, _ => ⟨S2x2048x16x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 1 15 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_18 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_17 : BitVec 32 := 16#32
  let v33 : BitVec 32 := Scalar.muli v2 c16_i32_17
  let v34 : BitVec 32 := Scalar.addi c0_i32_18 v33
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2 : BitVec 32 := 4#32
  let v9 : BitVec 32 := Scalar.addi v5 c4_i32_2
  let c1_i32_3 : BitVec 32 := 1#32
  let v10 : BitVec 32 := Scalar.subi v9 c1_i32_3
  let c4_i32_4 : BitVec 32 := 4#32
  let c0_i32 : BitVec 32 := 0#32
  let v11 : BitVec 1 := Scalar.cmpi .eq c4_i32_4 c0_i32
  let c1_i32_5 : BitVec 32 := 1#32
  let v12 : BitVec 32 := Scalar.select v11 c1_i32_5 c4_i32_4
  let v13 : BitVec 32 := Scalar.remsi v10 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c4_i32_19 : BitVec 32 := 4#32
  let v35 : BitVec 32 := Scalar.muli v20 c4_i32_19
  let v36 : BitVec 32 := Scalar.addi v34 v35
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_20 : BitVec 32 := 1#32
  let v37 : BitVec 32 := Scalar.muli v8 c1_i32_20
  let v38 : BitVec 32 := Scalar.addi v36 v37
  v38.toNat
def k0_dev2 (d0 : Dev nD) : Nat :=
  let c0_i32_23 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_22 : BitVec 32 := 16#32
  let v39 : BitVec 32 := Scalar.muli v2 c16_i32_22
  let v40 : BitVec 32 := Scalar.addi c0_i32_23 v39
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_9 : BitVec 32 := 1#32
  let v21 : BitVec 32 := Scalar.addi v5 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_24 : BitVec 32 := 4#32
  let v41 : BitVec 32 := Scalar.muli v31 c4_i32_24
  let v42 : BitVec 32 := Scalar.addi v40 v41
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v43 : BitVec 32 := Scalar.muli v8 c1_i32_25
  let v44 : BitVec 32 := Scalar.addi v42 v43
  v44.toNat
def k0_off1 (d0 : Dev nD) (c0_i32_35 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_27 : BitVec 32 := 4#32
  let v45 : BitVec 32 := Scalar.addi v5 c4_i32_27
  let c1_i32_28 : BitVec 32 := 1#32
  let v46 : BitVec 32 := Scalar.subi v45 c1_i32_28
  let c4_i32_29 : BitVec 32 := 4#32
  let c0_i32_30 : BitVec 32 := 0#32
  let v47 : BitVec 1 := Scalar.cmpi .eq c4_i32_29 c0_i32_30
  let c1_i32_31 : BitVec 32 := 1#32
  let v48 : BitVec 32 := Scalar.select v47 c1_i32_31 c4_i32_29
  let v49 : BitVec 32 := Scalar.remsi v46 v48
  let c0_i32_33 : BitVec 32 := 0#32
  let v51 : BitVec 1 := Scalar.cmpi .slt v49 c0_i32_33
  let c0_i32_34 : BitVec 32 := 0#32
  let v52 : BitVec 1 := Scalar.cmpi .slt v48 c0_i32_34
  let v53 : BitVec 1 := Scalar.xori v51 v52
  let c0_i32_32 : BitVec 32 := 0#32
  let v50 : BitVec 1 := Scalar.cmpi .ne v49 c0_i32_32
  let v54 : BitVec 1 := Scalar.andi v53 v50
  let v55 : BitVec 32 := Scalar.addi v49 v48
  let v56 : BitVec 32 := Scalar.select v54 v55 v49
  let c512_i32 : BitVec 32 := 512#32
  let v57 : BitVec 32 := Scalar.muli v56 c512_i32
  let v58 : BitVec 32 := Scalar.addi c0_i32_35 v57
  let v59 : Index := Scalar.indexCast v58
  let c0 : Index := 0#32
  ![v59.toNat, 0]
def k0_dev3 (d0 : Dev nD) : Nat :=
  let c0_i32_77 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_76 : BitVec 32 := 16#32
  let v98 : BitVec 32 := Scalar.muli v2 c16_i32_76
  let v99 : BitVec 32 := Scalar.addi c0_i32_77 v98
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_9 : BitVec 32 := 1#32
  let v21 : BitVec 32 := Scalar.addi v5 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_78 : BitVec 32 := 4#32
  let v100 : BitVec 32 := Scalar.muli v31 c4_i32_78
  let v101 : BitVec 32 := Scalar.addi v99 v100
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_79 : BitVec 32 := 1#32
  let v102 : BitVec 32 := Scalar.muli v8 c1_i32_79
  let v103 : BitVec 32 := Scalar.addi v101 v102
  v103.toNat
def k0_dev4 (d0 : Dev nD) : Nat :=
  let c0_i32_131 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_130 : BitVec 32 := 16#32
  let v153 : BitVec 32 := Scalar.muli v2 c16_i32_130
  let v154 : BitVec 32 := Scalar.addi c0_i32_131 v153
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_9 : BitVec 32 := 1#32
  let v21 : BitVec 32 := Scalar.addi v5 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_132 : BitVec 32 := 4#32
  let v155 : BitVec 32 := Scalar.muli v31 c4_i32_132
  let v156 : BitVec 32 := Scalar.addi v154 v155
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_133 : BitVec 32 := 1#32
  let v157 : BitVec 32 := Scalar.muli v8 c1_i32_133
  let v158 : BitVec 32 := Scalar.addi v156 v157
  v158.toNat
def k0_off2 (d0 : Dev nD) (c0_i32_147 : BitVec 32) (c0_i32_139 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c8_i32 : BitVec 32 := 8#32
  let v167 : BitVec 32 := Scalar.addi v5 c8_i32
  let c2_i32_138 : BitVec 32 := 2#32
  let v168 : BitVec 32 := Scalar.subi v167 c2_i32_138
  let v169 : BitVec 32 := Scalar.subi v168 c0_i32_139
  let c4_i32_140 : BitVec 32 := 4#32
  let c0_i32_141 : BitVec 32 := 0#32
  let v170 : BitVec 1 := Scalar.cmpi .eq c4_i32_140 c0_i32_141
  let c1_i32_142 : BitVec 32 := 1#32
  let v171 : BitVec 32 := Scalar.select v170 c1_i32_142 c4_i32_140
  let v172 : BitVec 32 := Scalar.remsi v169 v171
  let c0_i32_144 : BitVec 32 := 0#32
  let v174 : BitVec 1 := Scalar.cmpi .slt v172 c0_i32_144
  let c0_i32_145 : BitVec 32 := 0#32
  let v175 : BitVec 1 := Scalar.cmpi .slt v171 c0_i32_145
  let v176 : BitVec 1 := Scalar.xori v174 v175
  let c0_i32_143 : BitVec 32 := 0#32
  let v173 : BitVec 1 := Scalar.cmpi .ne v172 c0_i32_143
  let v177 : BitVec 1 := Scalar.andi v176 v173
  let v178 : BitVec 32 := Scalar.addi v172 v171
  let v179 : BitVec 32 := Scalar.select v177 v178 v172
  let c512_i32_146 : BitVec 32 := 512#32
  let v180 : BitVec 32 := Scalar.muli v179 c512_i32_146
  let v181 : BitVec 32 := Scalar.addi c0_i32_147 v180
  let v182 : Index := Scalar.indexCast v181
  let c0_148 : Index := 0#32
  ![v182.toNat, 0]
def k0_dev5 (d0 : Dev nD) : Nat :=
  let c0_i32_266 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_265 : BitVec 32 := 16#32
  let v289 : BitVec 32 := Scalar.muli v2 c16_i32_265
  let v290 : BitVec 32 := Scalar.addi c0_i32_266 v289
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_9 : BitVec 32 := 1#32
  let v21 : BitVec 32 := Scalar.addi v5 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_267 : BitVec 32 := 4#32
  let v291 : BitVec 32 := Scalar.muli v31 c4_i32_267
  let v292 : BitVec 32 := Scalar.addi v290 v291
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_268 : BitVec 32 := 1#32
  let v293 : BitVec 32 := Scalar.muli v8 c1_i32_268
  let v294 : BitVec 32 := Scalar.addi v292 v293
  v294.toNat
def k0_dev6 (d0 : Dev nD) : Nat :=
  let c0_i32_392 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_391 : BitVec 32 := 16#32
  let v412 : BitVec 32 := Scalar.muli v2 c16_i32_391
  let v413 : BitVec 32 := Scalar.addi c0_i32_392 v412
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_9 : BitVec 32 := 1#32
  let v21 : BitVec 32 := Scalar.addi v5 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_393 : BitVec 32 := 4#32
  let v414 : BitVec 32 := Scalar.muli v31 c4_i32_393
  let v415 : BitVec 32 := Scalar.addi v413 v414
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_394 : BitVec 32 := 1#32
  let v416 : BitVec 32 := Scalar.muli v8 c1_i32_394
  let v417 : BitVec 32 := Scalar.addi v415 v416
  v417.toNat
def k0_dev7 (d0 : Dev nD) : Nat :=
  let c0_i32_527 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_526 : BitVec 32 := 16#32
  let v548 : BitVec 32 := Scalar.muli v2 c16_i32_526
  let v549 : BitVec 32 := Scalar.addi c0_i32_527 v548
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_9 : BitVec 32 := 1#32
  let v21 : BitVec 32 := Scalar.addi v5 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_528 : BitVec 32 := 4#32
  let v550 : BitVec 32 := Scalar.muli v31 c4_i32_528
  let v551 : BitVec 32 := Scalar.addi v549 v550
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_529 : BitVec 32 := 1#32
  let v552 : BitVec 32 := Scalar.muli v8 c1_i32_529
  let v553 : BitVec 32 := Scalar.addi v551 v552
  v553.toNat
def k0_dev8 (d0 : Dev nD) : Nat :=
  let c0_i32_653 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_652 : BitVec 32 := 16#32
  let v671 : BitVec 32 := Scalar.muli v2 c16_i32_652
  let v672 : BitVec 32 := Scalar.addi c0_i32_653 v671
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_9 : BitVec 32 := 1#32
  let v21 : BitVec 32 := Scalar.addi v5 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_654 : BitVec 32 := 4#32
  let v673 : BitVec 32 := Scalar.muli v31 c4_i32_654
  let v674 : BitVec 32 := Scalar.addi v672 v673
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_655 : BitVec 32 := 1#32
  let v675 : BitVec 32 := Scalar.muli v8 c1_i32_655
  let v676 : BitVec 32 := Scalar.addi v674 v675
  v676.toNat
abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x2048x64x64 : Shape := ⟨4, ![2, 2048, 64, 64]⟩
abbrev S4096x4096 : Shape := ⟨2, ![4096, 4096]⟩
abbrev S2x2048x4096 : Shape := ⟨3, ![2, 2048, 4096]⟩

abbrev nBuf : Space → Nat
  | .hbm => 4
  | .vmem => 0
  | .smem => 0
  | _ => 0

abbrev bufTy : (tb : Table) → Fin (tcTables nBuf tb) → BufTy
  | .hbm, ⟨0, _⟩ => ⟨S2x2048x64x64, .bf16⟩
  | .hbm, ⟨1, _⟩ => ⟨S4096x4096, .bf16⟩
  | .hbm, ⟨2, _⟩ => ⟨S2x2048x4096, .bf16⟩
  | .hbm, ⟨3, _⟩ => ⟨S2x2048x4096, .f32⟩
  | _, _ => ⟨S2x2048x64x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Program.lean ====
/- The kernel's body read as the Python source writes it: a handshake with the two neighbours,
   products of row blocks written into slabs, slabs added into slabs, slabs sent round the ring.
   `BodyEq.body_eq` says that the printed body is this program. -/
module

public import proofs.«01_k».proof.Proof.Gen.KernelIdeal.Skeleton

@[expose] public section

noncomputable section

namespace Cert.Ring

open Idealize.ShloMosaic Idealize.SL.Sem
open Cert.KernelIdeal Cert.KernelIdeal.Gen

variable {F : FTy → Type} [FloatOps F]

/-- A piece of the kernel's body. -/
abbrev Code (F : FTy → Type) [FloatOps F] (α : Type) := Prog (TpuEff nD τ sig (Elt F) Λ₀ .tc) α

/-- The product of a block of 512 rows with a block of 1024 columns, rounded to bf16. -/
def blockDot (a : Vec F S512x1024 .bf16) (w : Vec F S1024x1024 .bf16) : FVec F S512x1024 .bf16 :=
  truncf .bf16 (matmul dot_S512x1024_S1024x1024_S512x1024_1_0_0_1_n_n none
    a w (constant S512x1024 .f32 0x00000000#32)) bitsLt_bf16_f32

/-- The sum of a block and a block of a product slab, in f32, rounded to bf16. -/
def blockAdd (x : Vec F S512x1024 .bf16) (p : Vec F S1x512x1024 .bf16) : FVec F S512x1024 .bf16 :=
  truncf .bf16 (addf (extf .f32 x bitsLt_bf16_f32)
    (extf .f32 (shapeCast S512x1024 p shapeCasts_S1x512x1024_S512x1024) bitsLt_bf16_f32)) bitsLt_bf16_f32

theorem inbW (h : Fin 4) : ∀ a, (![0, h.val * 1024] : Fin 2 → Nat) a + S1024x1024.size a ≤ S1024x4096.size a := by
  revert h; decide

theorem inbCol (h : Fin 4) : ∀ a, (![0, h.val * 1024] : Fin 2 → Nat) a + S512x1024.size a ≤ S512x4096.size a := by
  revert h; decide

theorem inbSlab3 (b : Fin 2) : ∀ a, (![b.val, 0, 0] : Fin 3 → Nat) a + S1x512x4096.size a ≤ S2x512x4096.size a := by
  revert b; decide

theorem inbCol3 (b : Fin 2) (h : Fin 4) : ∀ a, (![b.val, 0, h.val * 1024] : Fin 3 → Nat) a + S1x512x1024.size a ≤ S2x512x4096.size a := by
  revert b h; decide

theorem inbSlab4 (s : Fin 3) (b : Fin 2) : ∀ a, (![s.val, b.val, 0, 0] : Fin 4 → Nat) a + S1x1x512x4096.size a ≤ S3x2x512x4096.size a := by
  revert s b; decide

theorem inbCol4 (s : Fin 3) (b : Fin 2) (h : Fin 4) :
    ∀ a, (![s.val, b.val, 0, h.val * 1024] : Fin 4 → Nat) a + S1x1x512x1024.size a ≤ S3x2x512x4096.size a := by
  revert s b h; decide

theorem inbSem (s : Fin 3) (b : Fin 2) : ∀ a, (![s.val, b.val] : Fin 2 → Nat) a + S1x1.size a ≤ S3x2.size a := by
  revert s b; decide

/-- The rectangle of column block `h` of a slab. -/
abbrev colRect (h : Fin 4) : Rect S512x4096 := Rect.unit (s := S512x4096) ![0, h.val * 1024] S512x1024.size (inbCol h)

/-- The rectangle of column block `h` of the weights. -/
abbrev wRect (h : Fin 4) : Rect S1024x4096 := Rect.unit (s := S1024x4096) ![0, h.val * 1024] S1024x1024.size (inbW h)

/-- The rectangle of column block `h` of slab `b` of a pair of slabs. -/
abbrev col3 (b : Fin 2) (h : Fin 4) : Rect S2x512x4096 :=
  Rect.unit (s := S2x512x4096) ![b.val, 0, h.val * 1024] S1x512x1024.size (inbCol3 b h)

/-- The rectangle of column block `h` of slab `(s, b)` of the landing buffers. -/
abbrev col4 (s : Fin 3) (b : Fin 2) (h : Fin 4) : Rect S3x2x512x4096 :=
  Rect.unit (s := S3x2x512x4096) ![s.val, b.val, 0, h.val * 1024] S1x1x512x1024.size (inbCol4 s b h)

/-- Slab `b` of a pair of slabs. -/
abbrev slab3 (M : Memref sig .tc .vmem S2x512x4096 .bf16) (b : Fin 2) : Memref sig .tc .vmem S512x4096 .bf16 :=
  (M.slice (Rect.unit (s := S2x512x4096) ![b.val, 0, 0] S1x512x4096.size (inbSlab3 b)) (fun _ => rfl)).squeeze
    S512x4096 squeezes_S1x512x4096_S512x4096

/-- Slab `(s, b)` of the landing buffers. -/
abbrev slab4 (M : Memref sig .tc .vmem S3x2x512x4096 .bf16) (s : Fin 3) (b : Fin 2) : Memref sig .tc .vmem S512x4096 .bf16 :=
  (M.slice (Rect.unit (s := S3x2x512x4096) ![s.val, b.val, 0, 0] S1x1x512x4096.size (inbSlab4 s b)) (fun _ => rfl)).squeeze
    S512x4096 squeezes_S1x1x512x4096_S512x4096

theorem packed3 (b : Fin 2) (h : Fin 4) : (col3 b h).PackedRows (EltTy.packing .bf16) := by
  revert b h; decide

theorem packed4 (s : Fin 3) (b : Fin 2) (h : Fin 4) : (col4 s b h).PackedRows (EltTy.packing .bf16) := by
  revert s b h; decide

theorem words3 (b : Fin 2) :
    (Rect.unit (s := S2x512x4096) ![b.val, 0, 0] S1x512x4096.size (inbSlab3 b)).WholeWords (EltTy.packing .bf16) := by
  revert b; decide

theorem words4 (s : Fin 3) (b : Fin 2) :
    (Rect.unit (s := S3x2x512x4096) ![s.val, b.val, 0, 0] S1x1x512x4096.size (inbSlab4 s b)).WholeWords (EltTy.packing .bf16) := by
  revert s b; decide

/-- A slab is whole words of its buffer: what a transfer asks. -/
theorem exact3 {M : Memref sig .tc .vmem S2x512x4096 .bf16} (hM : M.IsWhole) (b : Fin 2) : (slab3 M b).view.WordExact :=
  (hM.wordExact_slice rfl _ (words3 b)).reshape _ _

theorem exact4 {M : Memref sig .tc .vmem S3x2x512x4096 .bf16} (hM : M.IsWhole) (s : Fin 3) (b : Fin 2) :
    (slab4 M s b).view.WordExact :=
  (hM.wordExact_slice rfl _ (words4 s b)).reshape _ _

/-- A slab as the body uses it: the memref its columns are read through, and how a block is stored
    into its column block `h`. -/
structure Slab (F : FTy → Type) [FloatOps F] where
  mem : Memref sig .tc .vmem S512x4096 .bf16
  exact : mem.view.WordExact
  put : Fin 4 → FVec F S512x1024 .bf16 → Code F PUnit

/-- Slab `b` of a pair of slabs. -/
def pairSlab (M : Memref sig .tc .vmem S2x512x4096 .bf16) (hM : M.IsWhole) (b : Fin 2) : Slab F where
  mem := slab3 M b
  exact := exact3 hM b
  put h x := Prog.lift (.store M (col3 b h)
    (shapeCast S1x512x1024 x shapeCasts_S512x1024_S1x512x1024) Finset.univ
    (View.stores_vmem h_S1x512x1024 (hM.storeExact_slice rfl _ (packed3 b h)) (fun _ => rfl)) (.inl rfl))

/-- Slab `(s, b)` of the landing buffers. -/
def landSlab (M : Memref sig .tc .vmem S3x2x512x4096 .bf16) (hM : M.IsWhole) (s : Fin 3) (b : Fin 2) : Slab F where
  mem := slab4 M s b
  exact := exact4 hM s b
  put h x := Prog.lift (.store M (col4 s b h)
    (shapeCast S1x1x512x1024 x shapeCasts_S512x1024_S1x1x512x1024) Finset.univ
    (View.stores_vmem h_S1x1x512x1024 (hM.storeExact_slice rfl _ (packed4 s b h)) (fun _ => rfl)) (.inl rfl))

/-- Column block `h` of a slab, read through the slab's own memref. -/
def getCol (m : Memref sig .tc .vmem S512x4096 .bf16) (h : Fin 4) : Code F (Vec F S512x1024 .bf16) :=
  Prog.lift (.load m (colRect h).toLoadRect (View.loadsAt_vmem h_S512x1024))

/-- One column block of a product: `dst2[:, cols] = (a @ w[:, cols])`. -/
def dotCol (W : Memref sig .tc .vmem S1024x4096 .bf16) (D : Slab F) (a : Vec F S512x1024 .bf16) (h : Fin 4) : Code F PUnit := do
  let w : Vec F S1024x1024 .bf16 ← Prog.lift (.load W (wRect h).toLoadRect (View.loadsAt_vmem h_S1024x1024))
  let _ : Vec F S512x1024 .bf16 ← getCol D.mem h
  D.put h (blockDot a w)

/-- A product of a row block (`dot_batch`): its four column blocks, into a slab. -/
def dotRows (A : Memref sig .tc .vmem S4096x1024 .bf16) (W : Memref sig .tc .vmem S1024x4096 .bf16) (D : Slab F)
    (off : Fin 2 → Nat) (inb : ∀ a, off a + S512x1024.size a ≤ S4096x1024.size a) : Code F PUnit := do
  let a : Vec F S512x1024 .bf16 ← Prog.lift (.load A (Rect.unit (s := S4096x1024) off S512x1024.size inb).toLoadRect
    (View.loadsAt_vmem h_S512x1024))
  dotCol W D a 0
  dotCol W D a 1
  dotCol W D a 2
  dotCol W D a 3

/-- One column block of an addition: `dst2[:, cols] += p[b, :, cols]`. -/
def addCol (P : Memref sig .tc .vmem S2x512x4096 .bf16) (D : Slab F) (b : Fin 2) (h : Fin 4) : Code F PUnit := do
  let x : Vec F S512x1024 .bf16 ← getCol D.mem h
  let p : Vec F S1x512x1024 .bf16 ← Prog.lift (.load P (col3 b h).toLoadRect (View.loadsAt_vmem h_S1x512x1024))
  let _ : Vec F S512x1024 .bf16 ← getCol D.mem h
  D.put h (blockAdd x p)

/-- A product slab added into a slab (`add_batch`). -/
def addRows (P : Memref sig .tc .vmem S2x512x4096 .bf16) (D : Slab F) (b : Fin 2) : Code F PUnit := do
  addCol P D b 0
  addCol P D b 1
  addCol P D b 2
  addCol P D b 3

/-- Semaphore `(s, b)` of an array of six. -/
abbrev semAt (a : DmaSems sig S3x2) (s : Fin 3) (b : Fin 2) : DmaSem sig :=
  ((a.slice (Rect.unit (s := S3x2) ![s.val, b.val] S1x1.size (inbSem s b))).squeeze S_ squeezes_S1x1_S_).sem

/-- A slab sent to the device `d`'s slab. -/
def send (src dst : Slab F) (d : Dev nD) (ss rs : DmaSem sig) : Code F PUnit :=
  Prog.lift (.enqueueDma src.mem (.remote (Dev.tc d) dst.mem (.dma ss)) (.dma rs) src.exact dst.exact ⟨⟨rfl, Or.inl rfl⟩, trivial⟩)

/-- A wait for a slab's transfer. -/
def waitFor (sem : DmaSem sig) (src dst : Slab F) : Code F PUnit :=
  Prog.lift (.waitDma2 sem src.mem dst.mem src.exact dst.exact)

/-- The handshake with the two neighbours on the barrier semaphore. -/
def greet (d0 : Dev nD) : Code F PUnit := do
  semSignalWord (⟨k0_dev1 d0, k0_dev1_lt d0⟩ : Dev nD) (SemArray.scalar (sig.barrier 0 rfl) : Sems sig S_).sem 1#32
  semSignalWord (⟨k0_dev2 d0, k0_dev2_lt d0⟩ : Dev nD) (SemArray.scalar (sig.barrier 0 rfl) : Sems sig S_).sem 1#32
  semWaitWord (SemArray.scalar (sig.barrier 0 rfl) : Sems sig S_).sem 2#32

/-- The kernel's body. -/
def ringBody (A : Memref sig .tc .vmem S4096x1024 .bf16) (W : Memref sig .tc .vmem S1024x4096 .bf16)
    (O : Memref sig .tc .vmem S2x512x4096 .bf16) (hO : O.IsWhole) (C : Memref sig .tc .vmem S3x2x512x4096 .bf16) (hC : C.IsWhole)
    (P : Memref sig .tc .vmem S2x512x4096 .bf16) (hP : P.IsWhole) (ss rs : DmaSems sig S3x2) : Code F PUnit := do
  let d0 : Dev nD ← Prog.lift .deviceId
  greet d0
  -- the first chunk's two products, sent at once
  dotRows A W (landSlab C hC 0 0) (k0_off1 d0 0#32) (k0_off1_inb d0 0)
  send (landSlab C hC 0 0) (landSlab C hC 1 0) ⟨k0_dev3 d0, k0_dev3_lt d0⟩ (semAt ss 0 0) (semAt rs 0 0)
  dotRows A W (landSlab C hC 0 1) (k0_off1 d0 2048#32) (k0_off1_inb d0 1)
  send (landSlab C hC 0 1) (landSlab C hC 1 1) ⟨k0_dev4 d0, k0_dev4_lt d0⟩ (semAt ss 0 1) (semAt rs 0 1)
  -- the first step of the ring
  dotRows A W (pairSlab P hP 0) (k0_off2 d0 0#32 0#32) (k0_off2_inb d0 0 0)
  waitFor (semAt rs 0 0) (landSlab C hC 0 0) (landSlab C hC 1 0)
  addRows P (landSlab C hC 1 0) 0
  send (landSlab C hC 1 0) (landSlab C hC 2 0) ⟨k0_dev5 d0, k0_dev5_lt d0⟩ (semAt ss 1 0) (semAt rs 1 0)
  dotRows A W (pairSlab P hP 1) (k0_off2 d0 2048#32 0#32) (k0_off2_inb d0 1 0)
  waitFor (semAt rs 0 1) (landSlab C hC 0 1) (landSlab C hC 1 1)
  addRows P (landSlab C hC 1 1) 1
  send (landSlab C hC 1 1) (landSlab C hC 2 1) ⟨k0_dev6 d0, k0_dev6_lt d0⟩ (semAt ss 1 1) (semAt rs 1 1)
  -- the second
  dotRows A W (pairSlab P hP 0) (k0_off2 d0 0#32 1#32) (k0_off2_inb d0 0 1)
  waitFor (semAt rs 1 0) (landSlab C hC 1 0) (landSlab C hC 2 0)
  addRows P (landSlab C hC 2 0) 0
  send (landSlab C hC 2 0) (pairSlab O hO 0) ⟨k0_dev7 d0, k0_dev7_lt d0⟩ (semAt ss 2 0) (semAt rs 2 0)
  dotRows A W (pairSlab P hP 1) (k0_off2 d0 2048#32 1#32) (k0_off2_inb d0 1 1)
  waitFor (semAt rs 1 1) (landSlab C hC 1 1) (landSlab C hC 2 1)
  addRows P (landSlab C hC 2 1) 1
  send (landSlab C hC 2 1) (pairSlab O hO 1) ⟨k0_dev8 d0, k0_dev8_lt d0⟩ (semAt ss 2 1) (semAt rs 2 1)
  -- the last, whose sums stay
  dotRows A W (pairSlab P hP 0) (k0_off2 d0 0#32 2#32) (k0_off2_inb d0 0 2)
  waitFor (semAt rs 2 0) (landSlab C hC 2 0) (pairSlab O hO 0)
  addRows P (pairSlab O hO 0) 0
  dotRows A W (pairSlab P hP 1) (k0_off2 d0 2048#32 2#32) (k0_off2_inb d0 1 2)
  waitFor (semAt rs 2 1) (landSlab C hC 2 1) (pairSlab O hO 1)
  addRows P (pairSlab O hO 1) 1
  -- every transfer out of this device is over
  waitFor (semAt ss 0 0) (landSlab C hC 1 0) (landSlab C hC 0 0)
  waitFor (semAt ss 0 1) (landSlab C hC 1 1) (landSlab C hC 0 1)
  waitFor (semAt ss 1 0) (landSlab C hC 2 0) (landSlab C hC 1 0)
  waitFor (semAt ss 1 1) (landSlab C hC 2 1) (landSlab C hC 1 1)
  waitFor (semAt ss 2 0) (pairSlab O hO 0) (landSlab C hC 2 0)
  waitFor (semAt ss 2 1) (pairSlab O hO 1) (landSlab C hC 2 1)

end Cert.Ring
-- ==== Proof.Geometry.lean ====
/- Where the column blocks of a slab lie: a block stored through the buffer the slab is cut from is an
   update of the slab's columns, and a block loaded through that buffer is the slab's columns. -/
module

public import proofs.«01_k».proof.Proof.Program
public import Idealize.ShloMosaic.Lib.ValueLayout
public import Idealize.ShloMosaic.Lib.Pipeline.Value

@[expose] public section

noncomputable section

namespace Cert.Ring

open Idealize.ShloMosaic Idealize.ShloMosaic.ValueIdx Idealize.SL.Sem
open Cert.KernelIdeal Cert.KernelIdeal.Gen

variable {F : FTy → Type} [FloatOps F]

/-- The entry `(i, j)` of a row-column shape. -/
abbrev at2 {a b : Nat} (x : Fin a) (y : Fin b) : (⟨2, ![a, b]⟩ : Shape).Idx := ix2 x y

/-- The contents of a slab: 512 rows of 4096 columns. -/
abbrev Tile (F : FTy → Type) := S512x4096.Idx → Elt F .bf16

/-- A block of a slab: 512 rows of 1024 columns. -/
abbrev Block (F : FTy → Type) := S512x1024.Idx → Elt F .bf16

/-- Column block `h` of a slab. -/
def colOf (V : Tile F) (h : Fin 4) : Block F := fun q => V ((colRect h).emb q)

/-- The column block a column of a slab lies in. -/
def blockOf (p : S512x4096.Idx) : Fin 4 := ⟨(p 1).val / 1024, by have := (p 1).isLt; change (p 1).val < 4096 at this; omega⟩

/-- Where in its column block an entry of a slab lies. -/
def inBlock (p : S512x4096.Idx) : S512x1024.Idx :=
  at2 (a := 512) (b := 1024) ⟨(p 0).val, (p 0).isLt⟩ ⟨(p 1).val % 1024, Nat.mod_lt _ (by decide)⟩

/-- A slab with its column block `h` replaced. -/
def setCol (V : Tile F) (h : Fin 4) (x : Block F) : Tile F := fun p => if blockOf p = h then x (inBlock p) else V p

/-- The slab whose column blocks are the four given. -/
def tileOf (x : Fin 4 → Block F) : Tile F := fun p => x (blockOf p) (inBlock p)

theorem colRect_inBlock (p : S512x4096.Idx) : (colRect (blockOf p)).emb (inBlock p) = p := by
  funext a
  apply Fin.ext
  match a with
  | ⟨0, _⟩ => show 0 + 1 * (p 0).val = (p 0).val; omega
  | ⟨1, _⟩ => show (p 1).val / 1024 * 1024 + 1 * ((p 1).val % 1024) = (p 1).val; omega

theorem blockOf_colRect (h : Fin 4) (q : S512x1024.Idx) : blockOf ((colRect h).emb q) = h := by
  apply Fin.ext
  show (h.val * 1024 + 1 * (q 1).val) / 1024 = h.val
  have := (q 1).isLt; change (q 1).val < 1024 at this; omega

theorem inBlock_colRect (h : Fin 4) (q : S512x1024.Idx) : inBlock ((colRect h).emb q) = q := by
  funext a
  apply Fin.ext
  match a with
  | ⟨0, _⟩ => show 0 + 1 * (q 0).val = (q 0).val; omega
  | ⟨1, _⟩ =>
    show (h.val * 1024 + 1 * (q 1).val) % 1024 = (q 1).val
    have := (q 1).isLt; change (q 1).val < 1024 at this; omega

theorem colOf_setCol_self (V : Tile F) (h : Fin 4) (x : Block F) : colOf (setCol V h x) h = x := by
  funext q
  simp only [colOf, setCol, blockOf_colRect, inBlock_colRect, if_true]

theorem colOf_setCol_ne (V : Tile F) {h h' : Fin 4} (x : Block F) (hne : h' ≠ h) : colOf (setCol V h x) h' = colOf V h' := by
  funext q
  simp only [colOf, setCol, blockOf_colRect, hne, if_false]

theorem colOf_tileOf (x : Fin 4 → Block F) (h : Fin 4) : colOf (tileOf x) h = x h := by
  funext q
  simp only [colOf, tileOf, blockOf_colRect, inBlock_colRect]

/-- The four column blocks replaced one after the other leave nothing of the slab. -/
theorem setCol_all (V : Tile F) (x : Fin 4 → Block F) :
    setCol (setCol (setCol (setCol V 0 (x 0)) 1 (x 1)) 2 (x 2)) 3 (x 3) = tileOf x := by
  funext p
  simp only [setCol, tileOf]
  generalize blockOf p = h
  match h with
  | ⟨0, _⟩ => rfl
  | ⟨1, _⟩ => rfl
  | ⟨2, _⟩ => rfl
  | ⟨3, _⟩ => rfl

/-! ## A slab cut from a buffer -/

section Cut
variable {κ : Kind} {sp : Space} {S : Shape} (M : View sig κ sp S .bf16) (r₁ r₂ : Rect S) (h : Fin 4)
  (h₁ : S512x4096.numel = r₁.shape.numel) (h₂ : S512x1024.numel = r₂.shape.numel)
  (geo : ∀ q : S512x1024.Idx, r₁.emb (Shape.reshapeEquiv h₁ ((colRect h).emb q)) = r₂.emb (Shape.reshapeEquiv h₂ q))
include geo

/-- The block's elements are the slab's. -/
theorem cut_subset : (M.slice r₂).set ⊆ ((M.slice r₁).reshape S512x4096 h₁).set := by
  intro i hi
  rw [View.set, Finset.mem_map] at hi
  obtain ⟨z, -, rfl⟩ := hi
  rw [View.set, Finset.mem_map]
  refine ⟨(colRect h).emb ((Shape.reshapeEquiv h₂).symm z), Finset.mem_univ _, ?_⟩
  have e := geo ((Shape.reshapeEquiv h₂).symm z)
  rw [Equiv.apply_symm_apply] at e
  exact congrArg M.emb e

/-- What the buffer holds under the block is the slab's column block. -/
theorem cut_read (f : M.ty.Contents (Elt F)) (q : S512x1024.Idx) :
    (M.slice r₂).read (Elt F) f (Shape.reshapeEquiv h₂ q) = colOf (((M.slice r₁).reshape S512x4096 h₁).read (Elt F) f) h q := by
  have e : M.emb (r₁.emb (Shape.reshapeEquiv h₁ ((colRect h).emb q))) = M.emb (r₂.emb (Shape.reshapeEquiv h₂ q)) :=
    congrArg M.emb (geo q)
  show _root_.cast (congrArg (Elt F) M.elt_eq) (f (M.emb (r₂.emb (Shape.reshapeEquiv h₂ q))))
    = _root_.cast (congrArg (Elt F) M.elt_eq) (f (M.emb (r₁.emb (Shape.reshapeEquiv h₁ ((colRect h).emb q)))))
  rw [e]

/-- A block stored is the slab with its column block replaced. -/
theorem cut_write (f : M.ty.Contents (Elt F)) (w : r₂.shape.Idx → Elt F .bf16) :
    ((M.slice r₁).reshape S512x4096 h₁).read (Elt F) ((M.slice r₂).write (Elt F) f w Finset.univ)
      = setCol (((M.slice r₁).reshape S512x4096 h₁).read (Elt F) f) h (fun q => w (Shape.reshapeEquiv h₂ q)) := by
  funext p
  by_cases hp : blockOf p = h
  · have e : p = (colRect h).emb (inBlock p) := by rw [← hp]; exact (colRect_inBlock p).symm
    have := cut_read M r₁ r₂ h h₁ h₂ geo ((M.slice r₂).write (Elt F) f w Finset.univ) (inBlock p)
    rw [View.read_write_univ] at this
    rw [setCol, if_pos hp, this, colOf, ← e]
  · rw [setCol, if_neg hp]
    show _root_.cast (congrArg (Elt F) M.elt_eq) ((M.slice r₂).write (Elt F) f w Finset.univ (M.emb (r₁.emb (Shape.reshapeEquiv h₁ p))))
      = _root_.cast (congrArg (Elt F) M.elt_eq) (f (M.emb (r₁.emb (Shape.reshapeEquiv h₁ p))))
    rw [View.write_of_not_mem]
    intro hi
    rw [View.setOn, Finset.mem_map] at hi
    obtain ⟨z, -, hz⟩ := hi
    have hz' : r₂.emb z = r₁.emb (Shape.reshapeEquiv h₁ p) := M.emb.injective hz
    have e := geo ((Shape.reshapeEquiv h₂).symm z)
    rw [Equiv.apply_symm_apply, hz'] at e
    have e' := (Shape.reshapeEquiv h₁).injective (r₁.emb.injective e)
    exact hp (by rw [← e', blockOf_colRect])

end Cut

theorem geo3 (b : Fin 2) (h : Fin 4) (h₁ : S512x4096.numel = S1x512x4096.numel) (h₂ : S512x1024.numel = S1x512x1024.numel) (q : S512x1024.Idx) :
    (Rect.unit (s := S2x512x4096) ![b.val, 0, 0] S1x512x4096.size (inbSlab3 b)).emb (Shape.reshapeEquiv h₁ ((colRect h).emb q))
      = (col3 b h).emb (Shape.reshapeEquiv h₂ q) := by
  have e₁ := reshapeEquiv_ix2_1ab (a := 512) (b := 4096) h₁ ((colRect h).emb q 0) ((colRect h).emb q 1)
  have e₂ := reshapeEquiv_ix2_1ab (a := 512) (b := 1024) h₂ (q 0) (q 1)
  have i₁ : (ix2 ((colRect h).emb q 0) ((colRect h).emb q 1) : S512x4096.Idx) = (colRect h).emb q := by
    funext a; match a with
    | ⟨0, _⟩ => rfl
    | ⟨1, _⟩ => rfl
  have i₂ : (ix2 (q 0) (q 1) : S512x1024.Idx) = q := by
    funext a; match a with
    | ⟨0, _⟩ => rfl
    | ⟨1, _⟩ => rfl
  rw [← i₁, ← i₂]
  refine (congrArg _ e₁).trans (Eq.trans ?_ (congrArg _ e₂).symm)
  funext a
  apply Fin.ext
  match a with
  | ⟨0, _⟩ => rfl
  | ⟨1, _⟩ => show 0 + 1 * (0 + 1 * (q 0).val) = 0 + 1 * (q 0).val; omega
  | ⟨2, _⟩ => show 0 + 1 * (h.val * 1024 + 1 * (q 1).val) = h.val * 1024 + 1 * (q 1).val; omega

theorem geo4 (s : Fin 3) (b : Fin 2) (h : Fin 4) (h₁ : S512x4096.numel = S1x1x512x4096.numel) (h₂ : S512x1024.numel = S1x1x512x1024.numel)
    (q : S512x1024.Idx) :
    (Rect.unit (s := S3x2x512x4096) ![s.val, b.val, 0, 0] S1x1x512x4096.size (inbSlab4 s b)).emb (Shape.reshapeEquiv h₁ ((colRect h).emb q))
      = (col4 s b h).emb (Shape.reshapeEquiv h₂ q) := by
  have e₁ := reshapeEquiv_ix2_11ab (a := 512) (b := 4096) h₁ ((colRect h).emb q 0) ((colRect h).emb q 1)
  have e₂ := reshapeEquiv_ix2_11ab (a := 512) (b := 1024) h₂ (q 0) (q 1)
  have i₁ : (ix2 ((colRect h).emb q 0) ((colRect h).emb q 1) : S512x4096.Idx) = (colRect h).emb q := by
    funext a; match a with
    | ⟨0, _⟩ => rfl
    | ⟨1, _⟩ => rfl
  have i₂ : (ix2 (q 0) (q 1) : S512x1024.Idx) = q := by
    funext a; match a with
    | ⟨0, _⟩ => rfl
    | ⟨1, _⟩ => rfl
  rw [← i₁, ← i₂]
  refine (congrArg _ e₁).trans (Eq.trans ?_ (congrArg _ e₂).symm)
  funext a
  apply Fin.ext
  match a with
  | ⟨0, _⟩ => rfl
  | ⟨1, _⟩ => rfl
  | ⟨2, _⟩ => show 0 + 1 * (0 + 1 * (q 0).val) = 0 + 1 * (q 0).val; omega
  | ⟨3, _⟩ => show 0 + 1 * (h.val * 1024 + 1 * (q 1).val) = h.val * 1024 + 1 * (q 1).val; omega

theorem numel3 : S512x1024.numel = S1x512x1024.numel := by decide +kernel

theorem numel4 : S512x1024.numel = S1x1x512x1024.numel := by decide +kernel

/-- A block stored into slab `b` of a pair lies in the slab. -/
theorem pair_subset (M : Memref sig .tc .vmem S2x512x4096 .bf16) (b : Fin 2) (h : Fin 4) :
    (M.access (col3 b h)).set ⊆ (slab3 M b).view.set :=
  cut_subset M.view _ (col3 b h) h _ numel3 (geo3 b h _ _)

/-- A block stored into slab `b` of a pair replaces the slab's column block. -/
theorem pair_write (M : Memref sig .tc .vmem S2x512x4096 .bf16) (b : Fin 2) (h : Fin 4)
    (f : M.view.ty.Contents (Elt F)) (x : Block F) :
    (slab3 M b).view.read (Elt F) ((M.access (col3 b h)).write (Elt F) f
        (shapeCast S1x512x1024 x shapeCasts_S512x1024_S1x512x1024) Finset.univ)
      = setCol ((slab3 M b).view.read (Elt F) f) h x := by
  refine (cut_write M.view _ (col3 b h) h _ numel3 (geo3 b h _ _) f _).trans ?_
  congr 1
  funext q
  unfold shapeCast
  rw [Shape.reshapeEquiv_reshapeEquiv, Shape.reshapeEquiv_self]

/-- What slab `b` of a pair holds in its column block `h`, read through the pair. -/
theorem pair_read (M : Memref sig .tc .vmem S2x512x4096 .bf16) (b : Fin 2) (h : Fin 4) (f : M.view.ty.Contents (Elt F)) :
    shapeCast S512x1024 ((M.access (col3 b h)).read (Elt F) f) shapeCasts_S1x512x1024_S512x1024
      = colOf ((slab3 M b).view.read (Elt F) f) h := by
  funext q
  exact cut_read M.view _ (col3 b h) h _ _ (geo3 b h _ _) f q

/-- A block stored into slab `(s, b)` of the landing buffers lies in the slab. -/
theorem land_subset (M : Memref sig .tc .vmem S3x2x512x4096 .bf16) (s : Fin 3) (b : Fin 2) (h : Fin 4) :
    (M.access (col4 s b h)).set ⊆ (slab4 M s b).view.set :=
  cut_subset M.view _ (col4 s b h) h _ numel4 (geo4 s b h _ _)

/-- A block stored into slab `(s, b)` of the landing buffers replaces the slab's column block. -/
theorem land_write (M : Memref sig .tc .vmem S3x2x512x4096 .bf16) (s : Fin 3) (b : Fin 2) (h : Fin 4)
    (f : M.view.ty.Contents (Elt F)) (x : Block F) :
    (slab4 M s b).view.read (Elt F) ((M.access (col4 s b h)).write (Elt F) f
        (shapeCast S1x1x512x1024 x shapeCasts_S512x1024_S1x1x512x1024) Finset.univ)
      = setCol ((slab4 M s b).view.read (Elt F) f) h x := by
  refine (cut_write M.view _ (col4 s b h) h _ numel4 (geo4 s b h _ _) f _).trans ?_
  congr 1
  funext q
  unfold shapeCast
  rw [Shape.reshapeEquiv_reshapeEquiv, Shape.reshapeEquiv_self]

end Cert.Ring
-- ==== Proof.Slabs.lean ====
/- What a product written into a slab, and a slab added into a slab, do: one lemma for each piece of the
   body, at any device. -/
module

public import proofs.«01_k».proof.Proof.Geometry
public import Idealize.ShloMosaic.Lib.Pipeline.Kit
public import Idealize.ShloMosaic.Lib.Rounds
public import Idealize.ShloMosaic.Lib.Tactic

@[expose] public section

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

/-- The ring's ghost state: a cell is paid by at most two neighbours. -/
abbrev UB : Type := Rounds.URounds (GSem nD τ sig) Bool

/-- The ghost state: the pipeline's part and the ring's part. -/
abbrev UU : Type := UR sig nD τ × UB

local notation "𝕄" => MT nD τ sig Unit (Elt F) ℕ UU ℕ

abbrev 𝒱₀ : Variants := Variants.none

/-- The run of a piece of the body on the device `c`. -/
abbrev runs {α : Type} (c : Dev nD) (x : Code F α) (Q : α → sProp 𝕄) : sProp 𝕄 :=
  wp frame (wpE (defs₀ (F := F)) 𝒱₀ (c : Thread nD τ) none) Set.univ x Q

/-- The slab behind `m` on the device `c`, holding `V`. -/
def slabAt (c : Dev nD) (m : Memref sig .tc .vmem S512x4096 .bf16) (V : Tile F) : sProp 𝕄 :=
  iprop(∃ f : Buf (Elt F) (m.view.loc (c : Thread nD τ)), ⌜m.view.read (Elt F) f = V⌝ ∗ (m.view.loc (c : Thread nD τ) ↦[m.view.set]{fullShare} f))

/-- The slab behind `m` on the device `c`, whatever it holds. -/
def slabAny (c : Dev nD) (m : Memref sig .tc .vmem S512x4096 .bf16) : sProp 𝕄 :=
  iprop(∃ f : Buf (Elt F) (m.view.loc (c : Thread nD τ)), m.view.loc (c : Thread nD τ) ↦[m.view.set]{fullShare} f)

theorem slabAt_any (c : Dev nD) (m : Memref sig .tc .vmem S512x4096 .bf16) (V : Tile F) : slabAt c m V ⊢ (slabAny c m : sProp 𝕄) := by
  unfold slabAt slabAny
  iintro ⟨%f, -, H⟩
  iexists f
  iexact H

theorem slabAny_at (c : Dev nD) (m : Memref sig .tc .vmem S512x4096 .bf16) : slabAny c m ⊢ (iprop(∃ V : Tile F, slabAt c m V) : sProp 𝕄) := by
  unfold slabAt slabAny
  iintro ⟨%f, H⟩
  iexists _
  iexists f
  isplitr
  · ipureintro; rfl
  iexact H

/-- The device's buffer `b`, whole, holding `f`. -/
abbrev pt (c : Dev nD) (b : Ref sig .tc) (f : b.ty.Contents (Elt F)) : sProp 𝕄 := (c : Thread nD τ).loc b ↦{fullShare} f

/-- Storing through `D` replaces a column block of the slab behind it. -/
def Puts (D : Slab F) : Prop :=
  ∀ (c : Dev nD) (h : Fin 4) (x : Block F) (V : Tile F) (Q : PUnit → sProp 𝕄),
    iprop(slabAt c D.mem V ∗ (slabAt c D.mem (setCol V h x) -∗ Q ⟨⟩)) ⊢ runs c (D.put h x) Q

theorem pair_puts (M : Memref sig .tc .vmem S2x512x4096 .bf16) (hM : M.IsWhole) (b : Fin 2) : Puts (F := F) (pairSlab M hM b) := by
  intro c h x V Q
  show iprop(slabAt c (slab3 M b) V ∗ (slabAt c (slab3 M b) (setCol V h x) -∗ Q ⟨⟩)) ⊢ _
  unfold slabAt pairSlab
  dsimp only [Prog.lift]
  iintro ⟨⟨%f, %hf, H⟩, Hk⟩
  iapply (wp_store 𝒱₀ (c : Thread nD τ) none Set.univ (m := M) (r := col3 b h) (Mk := Finset.univ)
    (S := (slab3 M b).view.set) (f := f) (pair_subset M b h)) $$ [H]
  · iexact H
  iintro H
  rw [wp_ret]
  imodintro
  iapply Hk
  iexists _
  isplitr
  swap
  · iexact H
  ipureintro
  exact (pair_write M b h f x).trans (congrArg (fun V => setCol V h x) hf)

theorem land_puts (M : Memref sig .tc .vmem S3x2x512x4096 .bf16) (hM : M.IsWhole) (s : Fin 3) (b : Fin 2) :
    Puts (F := F) (landSlab M hM s b) := by
  intro c h x V Q
  show iprop(slabAt c (slab4 M s b) V ∗ (slabAt c (slab4 M s b) (setCol V h x) -∗ Q ⟨⟩)) ⊢ _
  unfold slabAt landSlab
  dsimp only [Prog.lift]
  iintro ⟨⟨%f, %hf, H⟩, Hk⟩
  iapply (wp_store 𝒱₀ (c : Thread nD τ) none Set.univ (m := M) (r := col4 s b h) (Mk := Finset.univ)
    (S := (slab4 M s b).view.set) (f := f) (land_subset M s b h)) $$ [H]
  · iexact H
  iintro H
  rw [wp_ret]
  imodintro
  iapply Hk
  iexists _
  isplitr
  swap
  · iexact H
  ipureintro
  exact (land_write M s b h f x).trans (congrArg (fun V => setCol V h x) hf)

/-- Reading a column block of a slab through the slab's own memref. -/
theorem getCol_spec (c : Dev nD) (m : Memref sig .tc .vmem S512x4096 .bf16) (h : Fin 4) (V : Tile F) (Q : Block F → sProp 𝕄) :
    iprop(slabAt c m V ∗ (slabAt c m V -∗ Q (colOf V h))) ⊢ runs c (getCol m h) Q := by
  unfold slabAt getCol
  dsimp only [Prog.lift]
  iintro ⟨⟨%f, %hf, H⟩, Hk⟩
  iapply (wp_load_rect 𝒱₀ (c : Thread nD τ) none Set.univ (m := m) (r := colRect h) (S := m.view.set) (q := fullShare) (f := f)
    (View.set_slice_subset _ _)) $$ [H]
  · iexact H
  iintro H
  rw [wp_ret]
  imodintro
  have e : (m.access (colRect h)).read (Elt F) f = colOf V h := by rw [← hf]; rfl
  rw [e]
  iapply Hk
  iexists f
  isplitr
  · ipureintro; exact hf
  iexact H

/-- The rows at `off` of a device's operand. -/
def rowsOf (f : S4096x1024.Idx → Elt F .bf16) (off : Fin 2 → Nat) (inb : ∀ a, off a + S512x1024.size a ≤ S4096x1024.size a) : Block F :=
  fun q => f ((Rect.unit (s := S4096x1024) off S512x1024.size inb).emb q)

/-- Column block `h` of a device's weights. -/
def weightsOf (f : S1024x4096.Idx → Elt F .bf16) (h : Fin 4) : S1024x1024.Idx → Elt F .bf16 := fun q => f ((wRect h).emb q)

/-- The product of the rows at `off` with the weights, a column block at a time. -/
def dotTile (f : S4096x1024.Idx → Elt F .bf16) (w : S1024x4096.Idx → Elt F .bf16) (off : Fin 2 → Nat)
    (inb : ∀ a, off a + S512x1024.size a ≤ S4096x1024.size a) : Tile F :=
  tileOf fun h => blockDot (rowsOf f off inb) (weightsOf w h)

/-- The sum of two blocks, in f32, rounded to bf16. -/
def blockSum (x y : Block F) : FVec F S512x1024 .bf16 :=
  truncf .bf16 (addf (extf .f32 x bitsLt_bf16_f32) (extf .f32 y bitsLt_bf16_f32)) bitsLt_bf16_f32

/-- The sum of two slabs, a column block at a time. -/
def addTile (V X : Tile F) : Tile F := tileOf fun h => blockSum (colOf V h) (colOf X h)

abbrev Aref : Memref sig .tc .vmem S4096x1024 .bf16 := Memref.whole cc0_stg0_0
abbrev Wref : Memref sig .tc .vmem S1024x4096 .bf16 := Memref.whole cc0_stg1_0
abbrev Oref : Memref sig .tc .vmem S2x512x4096 .bf16 := Memref.whole cc0_stg2_0
abbrev Cref : Memref sig .tc .vmem S3x2x512x4096 .bf16 := Memref.whole cc0_scratch0
abbrev Pref : Memref sig .tc .vmem S2x512x4096 .bf16 := Memref.whole cc0_scratch1

/-- One column block of a product. -/
theorem dotCol_spec (c : Dev nD) (D : Slab F) (hD : Puts D) (a : Block F) (h : Fin 4) (w : S1024x4096.Idx → Elt F .bf16) (V : Tile F)
    (Q : PUnit → sProp 𝕄) :
    iprop(pt c cc0_stg1_0 w ∗ slabAt c D.mem V
        ∗ (pt c cc0_stg1_0 w -∗ slabAt c D.mem (setCol V h (blockDot a (weightsOf w h))) -∗ Q ⟨⟩))
      ⊢ runs c (dotCol Wref D a h) Q := by
  unfold dotCol runs
  rw [wp_bind]
  dsimp only [Prog.lift]
  iintro ⟨HW, HD, Hk⟩
  iapply (wp_load_rect 𝒱₀ (c : Thread nD τ) none Set.univ (m := Wref) (r := wRect h) (S := Finset.univ) (q := fullShare) (f := w)
    (Finset.subset_univ _)) $$ [HW]
  · iexact HW
  iintro HW
  rw [wp_ret]
  imodintro
  rw [wp_bind]
  iapply (getCol_spec c D.mem h V _)
  isplitl [HD]; · iexact HD
  iintro HD
  iapply (hD c h (blockDot a (weightsOf w h)) V Q)
  isplitl [HD]; · iexact HD
  iintro HD
  iapply Hk $$ [HW]
  · iexact HW
  iexact HD

/-- A product written into a slab. -/
theorem dotRows_spec (c : Dev nD) (D : Slab F) (hD : Puts D) (off : Fin 2 → Nat)
    (inb : ∀ a, off a + S512x1024.size a ≤ S4096x1024.size a)
    (f : S4096x1024.Idx → Elt F .bf16) (w : S1024x4096.Idx → Elt F .bf16) (Q : PUnit → sProp 𝕄) :
    iprop(pt c cc0_stg0_0 f ∗ pt c cc0_stg1_0 w ∗ slabAny c D.mem
        ∗ (pt c cc0_stg0_0 f -∗ pt c cc0_stg1_0 w -∗ slabAt c D.mem (dotTile f w off inb) -∗ Q ⟨⟩))
      ⊢ runs c (dotRows Aref Wref D off inb) Q := by
  unfold dotRows runs
  rw [wp_bind]
  dsimp only [Prog.lift]
  iintro ⟨HA, HW, HD, Hk⟩
  ihave HD := (slabAny_at c D.mem) $$ HD
  icases HD with ⟨%V, HD⟩
  iapply (wp_load_rect 𝒱₀ (c : Thread nD τ) none Set.univ (m := Aref) (r := Rect.unit (s := S4096x1024) off S512x1024.size inb)
    (S := Finset.univ) (q := fullShare) (f := f) (Finset.subset_univ _)) $$ [HA]
  · iexact HA
  iintro HA
  rw [wp_ret]
  imodintro
  rw [wp_bind]
  iapply (dotCol_spec c D hD (rowsOf f off inb) 0 w V _)
  isplitl [HW]; · iexact HW
  isplitl [HD]; · iexact HD
  iintro HW HD
  rw [wp_bind]
  iapply (dotCol_spec c D hD (rowsOf f off inb) 1 w _ _)
  isplitl [HW]; · iexact HW
  isplitl [HD]; · iexact HD
  iintro HW HD
  rw [wp_bind]
  iapply (dotCol_spec c D hD (rowsOf f off inb) 2 w _ _)
  isplitl [HW]; · iexact HW
  isplitl [HD]; · iexact HD
  iintro HW HD
  iapply (dotCol_spec c D hD (rowsOf f off inb) 3 w _ _)
  isplitl [HW]; · iexact HW
  isplitl [HD]; · iexact HD
  iintro HW HD
  have e := setCol_all V fun h => blockDot (rowsOf f off inb) (weightsOf w h)
  iapply Hk $$ [HA] [HW] [HD]
  · iexact HA
  · iexact HW
  unfold dotTile
  rw [← e]
  iexact HD

/-- One column block of an addition. -/
theorem addCol_spec (c : Dev nD) (D : Slab F) (hD : Puts D) (b : Fin 2) (h : Fin 4) (V X : Tile F) (Q : PUnit → sProp 𝕄) :
    iprop(slabAt c (slab3 Pref b) X ∗ slabAt c D.mem V
        ∗ (slabAt c (slab3 Pref b) X -∗ slabAt c D.mem (setCol V h (blockSum (colOf V h) (colOf X h))) -∗ Q ⟨⟩))
      ⊢ runs c (addCol Pref D b h) Q := by
  unfold addCol runs
  rw [wp_bind]
  iintro ⟨HP, HD, Hk⟩
  iapply (getCol_spec c D.mem h V _)
  isplitl [HD]; · iexact HD
  iintro HD
  rw [wp_bind]
  dsimp only [Prog.lift]
  unfold slabAt
  icases HP with ⟨%f, %hf, HP⟩
  iapply (wp_load_rect 𝒱₀ (c : Thread nD τ) none Set.univ (m := Pref) (r := col3 b h) (S := (slab3 Pref b).view.set) (q := fullShare) (f := f)
    (pair_subset Pref b h)) $$ [HP]
  · iexact HP
  iintro HP
  rw [wp_ret]
  imodintro
  rw [wp_bind]
  iapply (getCol_spec c D.mem h V _)
  isplitl [HD]; · unfold slabAt; iexact HD
  iintro HD
  have e : blockAdd (colOf V h) ((Pref.access (col3 b h)).read (Elt F) f) = blockSum (colOf V h) (colOf X h) := by
    rw [← hf]; unfold blockAdd blockSum; rw [pair_read]
  rw [e]
  iapply (hD c h _ V Q)
  isplitl [HD]; · iexact HD
  iintro HD
  iapply Hk $$ [HP] [HD]
  · iexists f
    isplitr
    · ipureintro; exact hf
    iexact HP
  unfold slabAt
  iexact HD

/-- A product slab added into a slab. -/
theorem addRows_spec (c : Dev nD) (D : Slab F) (hD : Puts D) (b : Fin 2) (V X : Tile F) (Q : PUnit → sProp 𝕄) :
    iprop(slabAt c (slab3 Pref b) X ∗ slabAt c D.mem V
        ∗ (slabAt c (slab3 Pref b) X -∗ slabAt c D.mem (addTile V X) -∗ Q ⟨⟩))
      ⊢ runs c (addRows Pref D b) Q := by
  unfold addRows runs
  rw [wp_bind]
  iintro ⟨HP, HD, Hk⟩
  iapply (addCol_spec c D hD b 0 V X _)
  isplitl [HP]; · iexact HP
  isplitl [HD]; · iexact HD
  iintro HP HD
  rw [wp_bind]
  iapply (addCol_spec c D hD b 1 _ X _)
  isplitl [HP]; · iexact HP
  isplitl [HD]; · iexact HD
  iintro HP HD
  rw [wp_bind]
  iapply (addCol_spec c D hD b 2 _ X _)
  isplitl [HP]; · iexact HP
  isplitl [HD]; · iexact HD
  iintro HP HD
  iapply (addCol_spec c D hD b 3 _ X _)
  isplitl [HP]; · iexact HP
  isplitl [HD]; · iexact HD
  iintro HP HD
  have e := setCol_all V fun h => blockSum (colOf V h) (colOf X h)
  rw [colOf_setCol_ne _ _ (by decide), colOf_setCol_ne _ _ (by decide), colOf_setCol_ne _ _ (by decide),
    colOf_setCol_ne _ _ (by decide), colOf_setCol_ne _ _ (by decide), colOf_setCol_ne _ _ (by decide)]
  iapply Hk $$ [HP] [HD]
  · iexact HP
  unfold addTile
  rw [← e]
  iexact HD

end Cert.Ring
-- ==== Proof.Ring.lean ====
/- The ring the devices form along the second axis of the mesh, the slabs and cells of each of them, what
   each transfer carries, and the schedule: which device pays which cell with what. -/
module

public import proofs.«01_k».proof.Proof.Slabs

@[expose] public section

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Neighbours -/

/-- The left neighbour on the ring. -/
def lf (c : Dev nD) : Dev nD := ⟨k0_dev1 c, k0_dev1_lt c⟩

/-- The right neighbour on the ring. -/
def rt (c : Dev nD) : Dev nD := ⟨k0_dev2 c, k0_dev2_lt c⟩

theorem lf_rt : ∀ c, lf (rt c) = c := by decide +kernel
theorem rt_lf : ∀ c, rt (lf c) = c := by decide +kernel
theorem rt_ne_lf : ∀ c, rt c ≠ lf c := by decide +kernel
theorem dev3_rt : ∀ c, (⟨k0_dev3 c, k0_dev3_lt c⟩ : Dev nD) = rt c := by decide +kernel
theorem dev4_rt : ∀ c, (⟨k0_dev4 c, k0_dev4_lt c⟩ : Dev nD) = rt c := by decide +kernel
theorem dev5_rt : ∀ c, (⟨k0_dev5 c, k0_dev5_lt c⟩ : Dev nD) = rt c := by decide +kernel
theorem dev6_rt : ∀ c, (⟨k0_dev6 c, k0_dev6_lt c⟩ : Dev nD) = rt c := by decide +kernel
theorem dev7_rt : ∀ c, (⟨k0_dev7 c, k0_dev7_lt c⟩ : Dev nD) = rt c := by decide +kernel
theorem dev8_rt : ∀ c, (⟨k0_dev8 c, k0_dev8_lt c⟩ : Dev nD) = rt c := by decide +kernel

/-- One step to the right, as a permutation of the devices. -/
def turn : Dev nD ≃ Dev nD := ⟨rt, lf, lf_rt, rt_lf⟩

/-! ## What the slabs hold -/

section Values
variable (fA : Dev nD → S4096x1024.Idx → Elt F .bf16) (fW : Dev nD → S1024x4096.Idx → Elt F .bf16)

/-- Where the rows of the device `c`'s first product, for batch `b`, start. -/
def firstOff (c : Dev nD) (b : Fin 2) : Fin 2 → Nat := k0_off1 c (BitVec.ofNat 32 (2048 * b.val))

/-- Where the rows of its product at step `s` of the ring start. -/
def stepOff (c : Dev nD) (b : Fin 2) (s : Fin 3) : Fin 2 → Nat := k0_off2 c (BitVec.ofNat 32 (2048 * b.val)) (BitVec.ofNat 32 s.val)

/-- The device `c`'s first product for batch `b`. -/
def firstTile (c : Dev nD) (b : Fin 2) : Tile F := dotTile (fA c) (fW c) (firstOff c b) (k0_off1_inb c b)

/-- Its product at step `s` of the ring. -/
def stepTile (c : Dev nD) (b : Fin 2) (s : Fin 3) : Tile F := dotTile (fA c) (fW c) (stepOff c b s) (k0_off2_inb c b s)

/-- What the device `c` sends at step `s`: its first product, and then what it received with its own
    product added. -/
def sent (b : Fin 2) : Fin 3 → Dev nD → Tile F
  | 0, c => firstTile fA fW c b
  | 1, c => addTile (firstTile fA fW (lf c) b) (stepTile fA fW c b 0)
  | 2, c => addTile (addTile (firstTile fA fW (lf (lf c)) b) (stepTile fA fW (lf c) b 0)) (stepTile fA fW c b 1)

/-- What it keeps: what it received last with its last product added. -/
def kept (b : Fin 2) (c : Dev nD) : Tile F := addTile (sent fA fW b 2 (lf c)) (stepTile fA fW c b 2)

end Values

/-! ## Cells and slabs -/

abbrev barS : Sem sig := (SemArray.scalar (sig.barrier 0 rfl) : Sems sig S_).sem
abbrev sendS (s : Fin 3) (b : Fin 2) : DmaSem sig := semAt cc0_scratch2 s b
abbrev recvS (s : Fin 3) (b : Fin 2) : DmaSem sig := semAt cc0_scratch3 s b

abbrev barC (c : Dev nD) : GSem nD τ sig := ((c : Thread nD τ), .reg barS)
abbrev sendC (c : Dev nD) (s : Fin 3) (b : Fin 2) : GSem nD τ sig := ((c : Thread nD τ), .dma (sendS s b))
abbrev recvC (c : Dev nD) (s : Fin 3) (b : Fin 2) : GSem nD τ sig := ((c : Thread nD τ), .dma (recvS s b))

/-- What a semaphore is for. -/
inductive Role where
  | bar
  | send (s : Fin 3) (b : Fin 2)
  | recv (s : Fin 3) (b : Fin 2)
  | other
  deriving DecidableEq

/-- The slab a transfer's completion semaphore stands for: its step and its batch. -/
def stepOf (n : Nat) : Fin 3 := if n < 2 then 0 else if n < 4 then 1 else 2
def batchOf (n : Nat) : Fin 2 := if n % 2 = 0 then 0 else 1

def roleOf : SemLoc sig → Role
  | .reg r => if r = barS then .bar else .other
  | .dma d => if 3 ≤ d.val ∧ d.val < 9 then .send (stepOf (d.val - 3)) (batchOf (d.val - 3))
      else if 9 ≤ d.val ∧ d.val < 15 then .recv (stepOf (d.val - 9)) (batchOf (d.val - 9)) else .other

theorem role_bar : roleOf (.reg barS) = .bar := by decide
theorem role_send (s : Fin 3) (b : Fin 2) : roleOf (.dma (sendS s b)) = .send s b := by revert s b; decide
theorem role_recv (s : Fin 3) (b : Fin 2) : roleOf (.dma (recvS s b)) = .recv s b := by revert s b; decide

/-- The slab that transfer `(s, b)` reads. -/
abbrev srcSlab (s : Fin 3) (b : Fin 2) : Slab F := landSlab Cref (Memref.isWhole_whole _) s b

/-- The slab of the right neighbour that transfer `(s, b)` writes. -/
def dstSlab : Fin 3 → Fin 2 → Slab F
  | 0, b => landSlab Cref (Memref.isWhole_whole _) 1 b
  | 1, b => landSlab Cref (Memref.isWhole_whole _) 2 b
  | 2, b => pairSlab Oref (Memref.isWhole_whole _) b

/-- What a transfer of a slab credits. -/
abbrev N : ℕ := (slab4 Cref 0 0).view.dmaCredit
theorem N_pos : 0 < N := View.dmaCredit_pos _ (by decide)

theorem credit_src (s : Fin 3) (b : Fin 2) : (srcSlab (F := F) s b).mem.view.dmaCredit = N := rfl
theorem credit_dst (s : Fin 3) (b : Fin 2) : (dstSlab (F := F) s b).mem.view.dmaCredit = N := by
  match s with
  | 0 => rfl
  | 1 => rfl
  | 2 => rfl

/-! ## The schedule -/

/-- One assertion for each of the six transfers. -/
def six (Φ : Fin 3 → Fin 2 → sProp 𝕄) : sProp 𝕄 := iprop(Φ 0 0 ∗ Φ 0 1 ∗ Φ 1 0 ∗ Φ 1 1 ∗ Φ 2 0 ∗ Φ 2 1)

/-- The six slabs the left neighbour writes, whatever they hold. -/
def slots (c : Dev nD) : sProp 𝕄 := six fun s b => slabAny c (dstSlab (F := F) s b).mem

/-- The six receive cells are at their first round. -/
def fresh (c : Dev nD) : sProp 𝕄 := six fun s b => reached ER (recvC c s b) 0

instance fresh_persistent (c : Dev nD) : BI.Persistent (fresh (F := F) c) := by unfold fresh six; infer_instance

section Sched
variable (fA : Dev nD → S4096x1024.Idx → Elt F .bf16) (fW : Dev nD → S1024x4096.Idx → Elt F .bf16)

/-- What the greeting from the right neighbour hands over: its slabs, to be written. -/
def barPay (c : Dev nD) : sProp 𝕄 := iprop(slots (rt c) ∗ fresh (rt c))

/-- What a transfer hands to the sender when its source is read: the source slab back. -/
def sendPay (c : Dev nD) (s : Fin 3) (b : Fin 2) : sProp 𝕄 := slabAny c (srcSlab (F := F) s b).mem

/-- What it hands to the receiver: the destination slab, at what the left neighbour sent. -/
def recvPay (c : Dev nD) (s : Fin 3) (b : Fin 2) : sProp 𝕄 := slabAt c (dstSlab (F := F) s b).mem (sent fA fW b s (lf c))

/-- The schedule. Each cell has one round. A barrier cell is paid one unit by each neighbour, the right one
    (`true`) handing over its slabs; a send cell and a receive cell are paid by one transfer. -/
def rd : Rounds.Schedule (GSem nD τ sig) Bool 𝕄 where
  duties g r := if r = 0 ∧ g.1.2 = .tc then
      (match roleOf g.2 with
        | .bar => {true, false}
        | .send _ _ => {true}
        | .recv _ _ => {true}
        | .other => ∅) else ∅
  unitless _ := False
  amount g _ _ := match roleOf g.2 with
    | .bar => 1
    | _ => N
  payload g _ d := match roleOf g.2 with
    | .bar => if d then barPay g.1.1 else iprop(emp)
    | .send s b => sendPay g.1.1 s b
    | .recv s b => recvPay fA fW g.1.1 s b
    | .other => iprop(emp)
  amount_pos g _ _ _ := by
    split
    · exact Nat.one_pos
    · exact N_pos

instance rd_payload_storable (g : GSem nD τ sig) (r : ℕ) (d : Bool) :
    BI.Storable (upEmb : UEmb _ 𝕄) ((rd (F := F) fA fW).payload g r d) := by
  show BI.Storable upEmb (match roleOf g.2 with
    | .bar => if d then barPay g.1.1 else iprop(emp)
    | .send s b => sendPay g.1.1 s b
    | .recv s b => recvPay fA fW g.1.1 s b
    | .other => iprop(emp))
  unfold barPay sendPay recvPay slots fresh six slabAny slabAt
  (repeat' split) <;> infer_instance

variable (c : Dev nD) (s : Fin 3) (b : Fin 2)

theorem duties_bar : (rd fA fW).duties (barC c) 0 = {true, false} := by
  dsimp only [rd]; rw [if_pos ⟨rfl, rfl⟩, role_bar]
theorem duties_send : (rd fA fW).duties (sendC c s b) 0 = {true} := by
  dsimp only [rd]; rw [if_pos ⟨rfl, rfl⟩, role_send]
theorem duties_recv : (rd fA fW).duties (recvC c s b) 0 = {true} := by
  dsimp only [rd]; rw [if_pos ⟨rfl, rfl⟩, role_recv]
theorem duties_later (g : GSem nD τ sig) : ∀ r, 1 ≤ r → (rd fA fW).duties g r = ∅ :=
  fun r hr => by dsimp only [rd]; exact if_neg fun h => by omega

theorem amount_bar (d : Bool) : (rd fA fW).amount (barC c) 0 d = 1 := by dsimp only [rd]; rw [role_bar]
theorem amount_send (d : Bool) : (rd fA fW).amount (sendC c s b) 0 d = N := by dsimp only [rd]; rw [role_send]
theorem amount_recv (d : Bool) : (rd fA fW).amount (recvC c s b) 0 d = N := by dsimp only [rd]; rw [role_recv]

theorem expect_bar : (rd fA fW).expect (barC c) 0 = 2 := by
  unfold Schedule.expect Schedule.amountOf
  rw [duties_bar, Finset.sum_pair (by decide), amount_bar, amount_bar]
theorem expect_send : (rd fA fW).expect (sendC c s b) 0 = N := by
  unfold Schedule.expect Schedule.amountOf; rw [duties_send, Finset.sum_singleton, amount_send]
theorem expect_recv : (rd fA fW).expect (recvC c s b) 0 = N := by
  unfold Schedule.expect Schedule.amountOf; rw [duties_recv, Finset.sum_singleton, amount_recv]

theorem payload_right : (rd fA fW).payload (barC c) 0 true = barPay c := by dsimp only [rd]; rw [role_bar]; rfl
theorem payload_left : (rd fA fW).payload (barC c) 0 false = iprop(emp) := by dsimp only [rd]; rw [role_bar]; rfl
theorem payload_send (d : Bool) : (rd fA fW).payload (sendC c s b) 0 d = sendPay c s b := by dsimp only [rd]; rw [role_send]
theorem payload_recv (d : Bool) : (rd fA fW).payload (recvC c s b) 0 d = recvPay fA fW c s b := by dsimp only [rd]; rw [role_recv]

theorem rest_bar : bigSep ((rd fA fW).duties (barC c) 0 \ ∅) (fun d => (rd fA fW).payload (barC c) 0 d) = iprop(barPay c ∗ emp) := by
  rw [Finset.sdiff_empty, duties_bar, bigSep_eq_bigSepL_of_eq [true, false] (by decide) (by decide)]
  show iprop((rd fA fW).payload (barC c) 0 true ∗ (rd fA fW).payload (barC c) 0 false) = _
  rw [payload_right, payload_left]
theorem rest_send : bigSep ((rd fA fW).duties (sendC c s b) 0 \ ∅) (fun d => (rd fA fW).payload (sendC c s b) 0 d) = sendPay c s b := by
  rw [Finset.sdiff_empty, duties_send, bigSep_singleton, payload_send]
theorem rest_recv : bigSep ((rd fA fW).duties (recvC c s b) 0 \ ∅) (fun d => (rd fA fW).payload (recvC c s b) 0 d) = recvPay fA fW c s b := by
  rw [Finset.sdiff_empty, duties_recv, bigSep_singleton, payload_recv]

end Sched

/-! ## What each device owes at the start; the order of the cells -/

/-- The receive credits of the right neighbour still owed, the next to be paid first. -/
def owing (c : Dev nD) : List (Fin 3 × Fin 2) → CellTallies nD τ sig Unit
  | [] => 0
  | p :: l => owing c l + tallyAt (recvC (rt c) p.1 p.2) () N

abbrev allSix : List (Fin 3 × Fin 2) := [(0, 0), (0, 1), (1, 0), (1, 1), (2, 0), (2, 1)]

def O₀ (c : Dev nD) : CellTallies nD τ sig Unit := owing c allSix + tallyAt (barC (rt c)) () 1 + tallyAt (barC (lf c)) () 1

def L (g : GSem nD τ sig) : Finset Unit := if g.1.2 = .tc then {()} else ∅

/-- Barrier cells come first, then the receive cells in the order of the transfers; every other cell is below. -/
def lv (g : GSem nD τ sig) (_ : Unit) : ℕ := match roleOf g.2 with
  | .bar => 1
  | .recv s b => 2 + 2 * s.val + b.val
  | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barC c) () = 1 := by dsimp only [lv]; rw [role_bar]
theorem lv_recv (c : Dev nD) (s : Fin 3) (b : Fin 2) : lv (recvC c s b) () = 2 + 2 * s.val + b.val := by dsimp only [lv]; rw [role_recv]

theorem owing_pos (c : Dev nD) (l : List (Fin 3 × Fin 2)) (g : GSem nD τ sig) (u : Unit) (h : 0 < owing c l g u) :
    ∃ p ∈ l, g = recvC (rt c) p.1 p.2 := by
  induction l with
  | nil => exact absurd h (Nat.lt_irrefl 0)
  | cons p l ih =>
    have h' : 0 < owing c l g u + tallyAt (recvC (rt c) p.1 p.2) () N g u := h
    by_cases h1 : 0 < owing c l g u
    · obtain ⟨q, hq, e⟩ := ih h1
      exact ⟨q, List.mem_cons_of_mem _ hq, e⟩
    · refine ⟨p, List.mem_cons_self, ?_⟩
      have h2 : 0 < tallyAt (recvC (rt c) p.1 p.2) () N g u := by omega
      rw [tallyAt_apply] at h2
      by_contra hne
      rw [if_neg (fun hh => hne hh.1)] at h2
      exact absurd h2 (Nat.lt_irrefl 0)

/-- A device may wait on a cell that comes before all that it still owes. -/
theorem mayWait (c : Dev nD) (sm : SemLoc sig) (l : List (Fin 3 × Fin 2))
    (h : ∀ p ∈ l, lv ((c : Thread nD τ), sm) () < 2 + 2 * p.1.val + p.2.val) :
    (levAts L lv : sProp 𝕄) ⊢ MayWait (c : Thread nD τ) sm () (owing c l) :=
  MayOwe.of_cut (L := L) (lev := lv) (lv ((c : Thread nD τ), sm) ())
    (fun p hp => by rw [Finset.mem_singleton.mp hp, L_tc]; exact Finset.mem_singleton_self _)
    (fun g u hg => by
      obtain ⟨p, -, rfl⟩ := owing_pos c l g u hg
      rw [L_tc]; exact Finset.mem_singleton_self _)
    (fun p hp => by rw [Finset.mem_singleton.mp hp])
    (fun g u hg => by
      obtain ⟨p, hp, rfl⟩ := owing_pos c l g u hg
      rw [lv_recv]; exact h p hp)

end Cert.Ring
-- ==== Proof.Steps.lean ====
/- The pieces of the body that talk: the greeting, a slab sent, a slab waited for. Each at any device, with
   what it takes and what it gives back. -/
module

public import proofs.«01_k».proof.Proof.Ring

@[expose] public section

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## All the cells -/

/-- A device's own send and receive semaphores: six and six. -/
abbrev osem : Fin 12 → SemLoc sig := fun k => .dma ⟨3 + k.val, by have := k.isLt; show 3 + k.val < 15; omega⟩

theorem osem_inj : Function.Injective osem := by decide
theorem osem_ne_bar : ∀ k : Fin 12, osem k ≠ .reg barS := by decide

def barEmb : Dev nD ↪ GSem nD τ sig := ⟨fun c => barC c, fun _ _ h => congrArg (fun g : GSem nD τ sig => g.1.1) h⟩
def ownEmb : Dev nD × Fin 12 ↪ GSem nD τ sig :=
  ⟨fun ck => ((ck.1 : Thread nD τ), osem ck.2), fun _ _ h =>
    Prod.ext (congrArg (fun g : GSem nD τ sig => g.1.1) h) (osem_inj (congrArg Prod.snd h))⟩

/-- The barrier cells of all devices. -/
abbrev barCells : Finset (GSem nD τ sig) := Finset.univ.map barEmb

/-- The send and receive cells of all devices. -/
abbrev ownCells : Finset (GSem nD τ sig) := Finset.univ.map ownEmb

/-- Where the send cell of a transfer is among a device's own. -/
def sendIx (s : Fin 3) (b : Fin 2) : Fin 12 := ⟨2 * s.val + b.val, by have := s.isLt; have := b.isLt; omega⟩
def recvIx (s : Fin 3) (b : Fin 2) : Fin 12 := ⟨6 + 2 * s.val + b.val, by have := s.isLt; have := b.isLt; omega⟩
theorem osem_send (s : Fin 3) (b : Fin 2) : osem (sendIx s b) = .dma (sendS s b) := by revert s b; decide
theorem osem_recv (s : Fin 3) (b : Fin 2) : osem (recvIx s b) = .dma (recvS s b) := by revert s b; decide

theorem bar_mem (c : Dev nD) : barC c ∈ (barCells ∪ ownCells : Finset (GSem nD τ sig)) :=
  Finset.mem_union_left _ (Finset.mem_map_of_mem barEmb (Finset.mem_univ c))
theorem send_mem (c : Dev nD) (s : Fin 3) (b : Fin 2) : sendC c s b ∈ (barCells ∪ ownCells : Finset (GSem nD τ sig)) := by
  have h := Finset.mem_map_of_mem ownEmb (Finset.mem_univ (c, sendIx s b))
  have e : ownEmb (c, sendIx s b) = sendC c s b := congrArg (Prod.mk (c : Thread nD τ)) (osem_send s b)
  exact Finset.mem_union_right _ (e ▸ h)
theorem recv_mem (c : Dev nD) (s : Fin 3) (b : Fin 2) : recvC c s b ∈ (barCells ∪ ownCells : Finset (GSem nD τ sig)) := by
  have h := Finset.mem_map_of_mem ownEmb (Finset.mem_univ (c, recvIx s b))
  have e : ownEmb (c, recvIx s b) = recvC c s b := congrArg (Prod.mk (c : Thread nD τ)) (osem_recv s b)
  exact Finset.mem_union_right _ (e ▸ h)

section Steps
variable (fA : Dev nD → S4096x1024.Idx → Elt F .bf16) (fW : Dev nD → S1024x4096.Idx → Elt F .bf16)
variable (K : GSem nD τ sig → ℕ)

/-- The invariants of all the cells, at the names `K`. -/
def invs : sProp 𝕄 := bigSep (barCells ∪ ownCells) fun g => cellInv ER (rd fA fW) (K g) g

instance invs_persistent : BI.Persistent (invs fA fW K) := by unfold invs; infer_instance

theorem inv_at {g : GSem nD τ sig} (hg : g ∈ (barCells ∪ ownCells : Finset (GSem nD τ sig))) :
    invs fA fW K ⊢ cellInv ER (rd fA fW) (K g) g := by
  unfold invs; exact bigSep_elim hg

/-- Before the return: a cell whose only round is over is closed, its counter back in hand at zero. -/
theorem close {g : GSem nD τ sig} (hg : g ∈ (barCells ∪ ownCells : Finset (GSem nD τ sig))) :
    iprop(invs fA fW K ∗ atPos ER g (0 + 1) ∅ 0) ⊢ (|={Set.univ}=> semVal g 0 : sProp 𝕄) := by
  iintro ⟨#HI, Ha⟩
  iapply (Rounds.cell_close ER (rd fA fW) (Set.mem_univ (K g)) id (duties_later fA fW g))
  isplitr
  · iapply (inv_at fA fW K hg); iexact HI
  iexact Ha

theorem dst_puts (s : Fin 3) (b : Fin 2) : Puts (F := F) (dstSlab s b) := by
  match s with
  | 0 => exact land_puts Cref (Memref.isWhole_whole _) 1 b
  | 1 => exact land_puts Cref (Memref.isWhole_whole _) 2 b
  | 2 => exact pair_puts Oref (Memref.isWhole_whole _) b

/-- What a device owes, whatever it has waited for. -/
def owed (c : Dev nD) (O : CellTallies nD τ sig Unit) : sProp 𝕄 := iprop(∃ W : Waits sig Unit, owes (c : Thread nD τ) O W)

/-- A slab sent to the right neighbour. -/
theorem send_spec (c : Dev nD) (s : Fin 3) (b : Fin 2) (l : List (Fin 3 × Fin 2)) (Q : PUnit → sProp 𝕄) :
    iprop(invs fA fW K ∗ slabAt c (srcSlab (F := F) s b).mem (sent fA fW b s c) ∗ slabAny (rt c) (dstSlab (F := F) s b).mem
        ∗ owed c (owing c ((s, b) :: l)) ∗ dutyTok ER (sendC c s b) 0 true ∗ reached ER (sendC c s b) 0
        ∗ dutyTok ER (recvC (rt c) s b) 0 true ∗ reached ER (recvC (rt c) s b) 0
        ∗ (cred (tallyAt (sendC c s b) () N) -∗ owed c (owing c l) -∗ Q ⟨⟩))
      ⊢ runs c (send (srcSlab (F := F) s b) (dstSlab s b) (rt c) (sendS s b) (recvS s b)) Q := by
  unfold send owed slabAt slabAny
  dsimp only [Prog.lift]
  iintro ⟨#HI, ⟨%fs, %hfs, Hs⟩, ⟨%fd, Hd⟩, ⟨%W, HO⟩, HtS, #HrS, HtR, #HrR, Hk⟩
  iapply (Rounds.wp_send_pointsTo 𝒱₀ ER (rd fA fW) (c : Thread nD τ) none (c' := (rt c : Thread nD τ))
      (src := (srcSlab (F := F) s b).mem) (dst := (dstSlab (F := F) s b).mem)
      (sS := .dma (sendS s b)) (sem := .dma (recvS s b)) (q := fullShare) (fs := fs) (fd := fd)
      (κ₁ := K (sendC c s b)) (κ₂ := K (recvC (rt c) s b)) (r₁ := 0) (r₂ := 0) (d₁ := true) (d₂ := true)
      (by rw [duties_send]; exact Finset.mem_singleton_self _) (by rw [duties_recv]; exact Finset.mem_singleton_self _)
      () () N (credit_dst s b) (amount_send fA fW c s b true) (amount_recv fA fW (rt c) s b true) (owing c l) rfl (W := W)
      (by
        rw [payload_send]; unfold sendPay slabAny
        iintro H; iexists fs; iexact H)
      (by
        rw [payload_recv]; unfold recvPay slabAt
        rw [lf_rt, ← hfs]
        iintro H
        iexists _
        isplitr
        swap
        · iexact H
        ipureintro
        exact View.read_write_univ _ _)) $$ [Hs Hd HO HtS HtR]
  · isplitr; · iapply (inv_at fA fW K (send_mem c s b)); iexact HI
    isplitr; · iapply (inv_at fA fW K (recv_mem (rt c) s b)); iexact HI
    isplitl [Hs]; · iexact Hs
    isplitl [Hd]; · iexact Hd
    isplitl [HO]; · iexact HO
    isplitl [HtS]; · iexact HtS
    isplitr; · iexact HrS
    isplitl [HtR]; · iexact HtR
    iexact HrR
  iintro ⟨Hc, HO⟩
  rw [wp_ret]
  imodintro
  iapply Hk $$ [Hc] [HO]
  · iexact Hc
  iexists W
  iexact HO

/-- The slab of transfer `(s, b)` waited for: it holds what the left neighbour sent. -/
theorem recv_spec (c : Dev nD) (s : Fin 3) (b : Fin 2) (l : List (Fin 3 × Fin 2))
    (hl : ∀ p ∈ l, 2 + 2 * s.val + b.val < 2 + 2 * p.1.val + p.2.val) (Q : PUnit → sProp 𝕄) :
    iprop(invs fA fW K ∗ levAts L lv ∗ cred (tallyAt (recvC c s b) () N) ∗ owed c (owing c l) ∗ atPos ER (recvC c s b) 0 ∅ 0
        ∗ (owed c (owing c l) -∗ atPos ER (recvC c s b) (0 + 1) ∅ 0
          -∗ slabAt c (dstSlab (F := F) s b).mem (sent fA fW b s (lf c)) -∗ Q ⟨⟩))
      ⊢ runs c (waitFor (recvS s b) (srcSlab (F := F) s b) (dstSlab s b)) Q := by
  unfold waitFor owed
  dsimp only [Prog.lift]
  iintro ⟨#HI, #Hlev, Hc, ⟨%W, HO⟩, Ha, Hk⟩
  iapply (Rounds.wp_wait_rest_token 𝒱₀ ER (rd fA fW) (c : Thread nD τ) none (κ := K (recvC c s b))
      (wpE_waitDma2_eq 𝒱₀ (c : Thread nD τ) none Set.univ) (Set.mem_univ _) () (O := owing c l) (W := W) (R := 0) (m := 0) (T := ∅)
      ((Nat.zero_add _).trans ((credit_dst s b).trans (expect_recv fA fW c s b).symm))) $$ [Hc HO Ha]
  · isplitr; · iapply (inv_at fA fW K (recv_mem c s b)); iexact HI
    isplitl [Hc]; · rw [show (dstSlab (F := F) s b).mem.view.dmaCredit = N from credit_dst s b]; iexact Hc
    isplitl [HO]; · iexact HO
    isplitr; · iapply (mayWait c (.dma (recvS s b)) l (by rw [lv_recv]; exact hl)); iexact Hlev
    iexact Ha
  iintro ⟨HO, Ha, -, Hpay⟩
  ihave Hp := (Entails.of_eq (rest_recv fA fW c s b)) $$ Hpay
  rw [wp_ret]
  imodintro
  iapply Hk $$ [HO] [Ha] [Hp]
  · iexists _; iexact HO
  · iexact Ha
  unfold recvPay
  iexact Hp

/-- The end of a device's own transfer waited for: the source slab is back. -/
theorem sent_spec (c : Dev nD) (s : Fin 3) (b : Fin 2) (Q : PUnit → sProp 𝕄) :
    iprop(invs fA fW K ∗ cred (tallyAt (sendC c s b) () N) ∗ owed c (owing c []) ∗ atPos ER (sendC c s b) 0 ∅ 0
        ∗ (owed c (owing c []) -∗ atPos ER (sendC c s b) (0 + 1) ∅ 0
          -∗ slabAny c (srcSlab (F := F) s b).mem -∗ Q ⟨⟩))
      ⊢ runs c (waitFor (sendS s b) (dstSlab (F := F) s b) (srcSlab s b)) Q := by
  unfold waitFor owed
  dsimp only [Prog.lift]
  iintro ⟨#HI, Hc, ⟨%W, HO⟩, Ha, Hk⟩
  iapply (Rounds.wp_wait_rest_token 𝒱₀ ER (rd fA fW) (c : Thread nD τ) none (κ := K (sendC c s b))
      (wpE_waitDma2_eq 𝒱₀ (c : Thread nD τ) none Set.univ) (Set.mem_univ _) () (O := 0) (W := W) (R := 0) (m := 0) (T := ∅)
      ((Nat.zero_add _).trans ((credit_src (F := F) s b).trans (expect_send fA fW c s b).symm))) $$ [Hc HO Ha]
  · isplitr; · iapply (inv_at fA fW K (send_mem c s b)); iexact HI
    isplitl [Hc]; · iexact Hc
    isplitl [HO]; · iexact HO
    isplitr; · rw [MayWait_zero]; iempintro
    iexact Ha
  iintro ⟨HO, Ha, -, Hpay⟩
  ihave Hp := (Entails.of_eq (rest_send fA fW c s b)) $$ Hpay
  rw [wp_ret]
  imodintro
  iapply Hk $$ [HO] [Ha] [Hp]
  · iexists _; iexact HO
  · iexact Ha
  unfold sendPay
  iexact Hp

/-- The greeting: the device hands its landing slabs to the left neighbour and gets the right neighbour's. -/
theorem greet_spec (c : Dev nD) (Q : PUnit → sProp 𝕄) :
    iprop(invs fA fW K ∗ levAts L lv ∗ slots c ∗ fresh c ∗ owed c (O₀ c) ∗ cred (tallyAt (barC c) () 2) ∗ atPos ER (barC c) 0 ∅ 0
        ∗ dutyTok ER (barC (lf c)) 0 true ∗ reached ER (barC (lf c)) 0 ∗ dutyTok ER (barC (rt c)) 0 false ∗ reached ER (barC (rt c)) 0
        ∗ (owed c (owing c allSix) -∗ atPos ER (barC c) (0 + 1) ∅ 0 -∗ slots (rt c) -∗ fresh (rt c) -∗ Q ⟨⟩))
      ⊢ runs c (greet (F := F) c) Q := by
  unfold greet owed runs
  simp only [semSignalWord, semWaitWord, Prog.lift, Prog.bind_op, Prog.bind_ret, Prog.pure_eq_ret]
  iintro ⟨#HI, #Hlev, Hsl, #Hfr, ⟨%W, HO⟩, Hc, Ha, HtL, #HrL, HtR, #HrR, Hk⟩
  iapply (Rounds.wp_signal 𝒱₀ ER (rd fA fW) (c : Thread nD τ) none (dst := (lf c : Thread nD τ)) (sem := barS) (r := 0) (d := true)
      (κ := K (barC (lf c))) (by rw [duties_bar]; decide) (amount_bar fA fW (lf c) true) ()
      (owing c allSix + tallyAt (barC (rt c)) () 1) rfl) $$ [HO HtL Hsl]
  · isplitr; · iapply (inv_at fA fW K (bar_mem (lf c))); iexact HI
    isplitl [HO]; · unfold O₀; iexact HO
    isplitl [HtL]; · iexact HtL
    isplitl [Hsl]
    · rw [payload_right]; unfold barPay; rw [rt_lf]
      isplitl [Hsl]; · iexact Hsl
      iexact Hfr
    iexact HrL
  iintro HO
  iapply (Rounds.wp_signal 𝒱₀ ER (rd fA fW) (c : Thread nD τ) none (dst := (rt c : Thread nD τ)) (sem := barS) (r := 0) (d := false)
      (κ := K (barC (rt c))) (by rw [duties_bar]; decide) (amount_bar fA fW (rt c) false) ()
      (owing c allSix) rfl) $$ [HO HtR]
  · isplitr; · iapply (inv_at fA fW K (bar_mem (rt c))); iexact HI
    isplitl [HO]; · iexact HO
    isplitl [HtR]; · iexact HtR
    isplitr
    · rw [payload_left]; iempintro
    iexact HrR
  iintro HO
  iapply (Rounds.wp_wait_rest_token 𝒱₀ ER (rd fA fW) (c : Thread nD τ) none (κ := K (barC c))
      (wpE_semWait_eq 𝒱₀ (c : Thread nD τ) none Set.univ) (Set.mem_univ _) () (O := owing c allSix) (W := W) (R := 0) (m := 0) (T := ∅)
      ((Nat.zero_add _).trans (expect_bar fA fW c).symm)) $$ [Hc HO Ha]
  · isplitr; · iapply (inv_at fA fW K (bar_mem c)); iexact HI
    isplitl [Hc]; · iexact Hc
    isplitl [HO]; · iexact HO
    isplitr; · iapply (mayWait c (.reg barS) allSix (by rw [lv_bar]; decide)); iexact Hlev
    iexact Ha
  iintro ⟨HO, Ha, -, Hpay⟩
  ihave Hp := (Entails.of_eq (rest_bar fA fW c)) $$ Hpay
  unfold barPay
  icases Hp with ⟨⟨Hsl, Hf⟩, -⟩
  rw [wp_ret]
  imodintro
  iapply Hk $$ [HO] [Ha] [Hsl] [Hf]
  · iexists _; iexact HO
  · iexact Ha
  · iexact Hsl
  iexact Hf

end Steps

end Cert.Ring
-- ==== Proof.Body.lean ====
/- The whole body on one device: what it takes from its neighbours and gives them, and the two slabs of
   sums it ends with. -/
module

public import proofs.«01_k».proof.Proof.Steps

@[expose] public section

noncomputable section

namespace Cert.Ring

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- The first product for batch `b`, sent. -/
def opening (c : Dev nD) (b : Fin 2) : Code F PUnit := do
  dotRows Aref Wref (srcSlab 0 b) (firstOff c b) (k0_off1_inb c b)
  send (srcSlab 0 b) (dstSlab 0 b) (rt c) (sendS 0 b) (recvS 0 b)

/-- A step of the ring up to its sum: the product made, the slab waited for, the product added into it. -/
def turnOnce (c : Dev nD) (s : Fin 3) (b : Fin 2) : Code F PUnit := do
  dotRows Aref Wref (pairSlab Pref (Memref.isWhole_whole _) b) (stepOff c b s) (k0_off2_inb c b s)
  waitFor (recvS s b) (srcSlab s b) (dstSlab s b)
  addRows Pref (dstSlab s b) b

/-- The body by its steps. -/
def ringSteps : Code F PUnit := do
  let c : Dev nD ← Prog.lift .deviceId
  greet c
  opening c 0
  opening c 1
  turnOnce c 0 0
  send (srcSlab 1 0) (dstSlab 1 0) (rt c) (sendS 1 0) (recvS 1 0)
  turnOnce c 0 1
  send (srcSlab 1 1) (dstSlab 1 1) (rt c) (sendS 1 1) (recvS 1 1)
  turnOnce c 1 0
  send (srcSlab 2 0) (dstSlab 2 0) (rt c) (sendS 2 0) (recvS 2 0)
  turnOnce c 1 1
  send (srcSlab 2 1) (dstSlab 2 1) (rt c) (sendS 2 1) (recvS 2 1)
  turnOnce c 2 0
  turnOnce c 2 1
  waitFor (sendS 0 0) (dstSlab 0 0) (srcSlab 0 0)
  waitFor (sendS 0 1) (dstSlab 0 1) (srcSlab 0 1)
  waitFor (sendS 1 0) (dstSlab 1 0) (srcSlab 1 0)
  waitFor (sendS 1 1) (dstSlab 1 1) (srcSlab 1 1)
  waitFor (sendS 2 0) (dstSlab 2 0) (srcSlab 2 0)
  waitFor (sendS 2 1) (dstSlab 2 1) (srcSlab 2 1)

theorem ringBody_eq : ringBody (F := F) Aref Wref Oref (Memref.isWhole_whole _) Cref (Memref.isWhole_whole _) Pref (Memref.isWhole_whole _)
    cc0_scratch2 cc0_scratch3 = ringSteps := by
  unfold ringBody ringSteps
  refine congrArg (Bind.bind _) (funext fun c => ?_)
  simp only [dev3_rt, dev4_rt, dev5_rt, dev6_rt, dev7_rt, dev8_rt, opening, turnOnce, bind_assoc]
  rfl

section Run
variable (fA : Dev nD → S4096x1024.Idx → Elt F .bf16) (fW : Dev nD → S1024x4096.Idx → Elt F .bf16)
variable (K : GSem nD τ sig → ℕ)

/-- Six cells closed, their counters back at zero. -/
theorem close_six (g : Fin 3 → Fin 2 → GSem nD τ sig) (hg : ∀ s b, g s b ∈ (barCells ∪ ownCells : Finset (GSem nD τ sig))) :
    iprop(invs fA fW K ∗ six fun s b => atPos ER (g s b) (0 + 1) ∅ 0) ⊢ (|={Set.univ}=> six fun s b => semVal (g s b) 0 : sProp 𝕄) := by
  have h : ∀ s b, iprop(invs fA fW K ∗ atPos ER (g s b) (0 + 1) ∅ 0) ⊢ (|={Set.univ}=> semVal (g s b) 0 : sProp 𝕄) :=
    fun s b => close fA fW K (hg s b)
  unfold six
  iintro ⟨#HI, H0, H1, H2, H3, H4, H5⟩
  imod (h 0 0) $$ [H0] with H0; · iframe HI H0
  imod (h 0 1) $$ [H1] with H1; · iframe HI H1
  imod (h 1 0) $$ [H2] with H2; · iframe HI H2
  imod (h 1 1) $$ [H3] with H3; · iframe HI H3
  imod (h 2 0) $$ [H4] with H4; · iframe HI H4
  imod (h 2 1) $$ [H5] with H5; · iframe HI H5
  imodintro
  iframe H0 H1 H2 H3 H4 H5

/-- The first product made and sent. -/
theorem opening_spec (c : Dev nD) (b : Fin 2) (l : List (Fin 3 × Fin 2)) (Q : PUnit → sProp 𝕄) :
    iprop(invs fA fW K ∗ pt c cc0_stg0_0 (fA c) ∗ pt c cc0_stg1_0 (fW c)
        ∗ slabAny c (srcSlab (F := F) 0 b).mem ∗ slabAny (rt c) (dstSlab (F := F) 0 b).mem
        ∗ owed c (owing c ((0, b) :: l)) ∗ dutyTok ER (sendC c 0 b) 0 true ∗ reached ER (sendC c 0 b) 0
        ∗ dutyTok ER (recvC (rt c) 0 b) 0 true ∗ reached ER (recvC (rt c) 0 b) 0
        ∗ (pt c cc0_stg0_0 (fA c) -∗ pt c cc0_stg1_0 (fW c) -∗ cred (tallyAt (sendC c 0 b) () N) -∗ owed c (owing c l) -∗ Q ⟨⟩))
      ⊢ runs c (opening c b) Q := by
  unfold opening runs
  rw [wp_bind]
  iintro ⟨#HI, HA, HW, Hs, Hd, HO, HtS, #HrS, HtR, #HrR, Hk⟩
  iapply (dotRows_spec c (srcSlab 0 b) (land_puts Cref (Memref.isWhole_whole _) 0 b) (firstOff c b) (k0_off1_inb c b) (fA c) (fW c) _)
  isplitl [HA]; · iexact HA
  isplitl [HW]; · iexact HW
  isplitl [Hs]; · iexact Hs
  iintro HA HW Hs
  iapply (send_spec fA fW K c 0 b l Q)
  isplitr; · iexact HI
  isplitl [Hs]; · iexact Hs
  isplitl [Hd]; · iexact Hd
  isplitl [HO]; · iexact HO
  isplitl [HtS]; · iexact HtS
  isplitr; · iexact HrS
  isplitl [HtR]; · iexact HtR
  isplitr; · iexact HrR
  iintro Hc HO
  iapply Hk $$ [HA] [HW] [Hc] [HO]
  · iexact HA
  · iexact HW
  · iexact Hc
  iexact HO

/-- A step of the ring up to its sum. -/
theorem turnOnce_spec (c : Dev nD) (s : Fin 3) (b : Fin 2) (l : List (Fin 3 × Fin 2))
    (hl : ∀ p ∈ l, 2 + 2 * s.val + b.val < 2 + 2 * p.1.val + p.2.val) (Q : PUnit → sProp 𝕄) :
    iprop(invs fA fW K ∗ levAts L lv ∗ pt c cc0_stg0_0 (fA c) ∗ pt c cc0_stg1_0 (fW c) ∗ slabAny c (slab3 Pref b)
        ∗ cred (tallyAt (recvC c s b) () N) ∗ owed c (owing c l) ∗ atPos ER (recvC c s b) 0 ∅ 0
        ∗ (pt c cc0_stg0_0 (fA c) -∗ pt c cc0_stg1_0 (fW c) -∗ slabAny c (slab3 Pref b)
          -∗ owed c (owing c l) -∗ atPos ER (recvC c s b) (0 + 1) ∅ 0
          -∗ slabAt c (dstSlab (F := F) s b).mem (addTile (sent fA fW b s (lf c)) (stepTile fA fW c b s)) -∗ Q ⟨⟩))
      ⊢ runs c (turnOnce c s b) Q := by
  unfold turnOnce runs
  rw [wp_bind]
  iintro ⟨#HI, #Hlev, HA, HW, HP, Hc, HO, Ha, Hk⟩
  iapply (dotRows_spec c (pairSlab Pref (Memref.isWhole_whole _) b) (pair_puts Pref (Memref.isWhole_whole _) b) (stepOff c b s)
    (k0_off2_inb c b s) (fA c) (fW c) _)
  isplitl [HA]; · iexact HA
  isplitl [HW]; · iexact HW
  isplitl [HP]; · iexact HP
  iintro HA HW HP
  rw [wp_bind]
  iapply (recv_spec fA fW K c s b l hl _)
  isplitr; · iexact HI
  isplitr; · iexact Hlev
  isplitl [Hc]; · iexact Hc
  isplitl [HO]; · iexact HO
  isplitl [Ha]; · iexact Ha
  iintro HO Ha HD
  iapply (addRows_spec c (dstSlab s b) (dst_puts s b) b (sent fA fW b s (lf c)) (stepTile fA fW c b s) Q)
  isplitl [HP]; · iexact HP
  isplitl [HD]; · iexact HD
  iintro HP HD
  iapply Hk $$ [HA] [HW] [HP] [HO] [Ha] [HD]
  · iexact HA
  · iexact HW
  · iapply (slabAt_any c (slab3 Pref b) (stepTile fA fW c b s)); iexact HP
  · iexact HO
  · iexact Ha
  iexact HD

/-- What a device brings to the body: the protocol's state with every cell open, the credit it waits with,
    its operands, its scratch and its result's buffer. -/
def bodyPre (c : Dev nD) : sProp 𝕄 :=
  iprop(invs fA fW K ∗ levAts L lv
    ∗ (reached ER (barC (lf c)) 0 ∗ reached ER (barC (rt c)) 0 ∗ (six fun s b => reached ER (sendC c s b) 0) ∗ fresh c)
    ∗ (atPos ER (barC c) 0 ∅ 0 ∗ (six fun s b => atPos ER (sendC c s b) 0 ∅ 0) ∗ (six fun s b => atPos ER (recvC c s b) 0 ∅ 0))
    ∗ (dutyTok ER (barC (lf c)) 0 true ∗ dutyTok ER (barC (rt c)) 0 false ∗ (six fun s b => dutyTok ER (sendC c s b) 0 true)
      ∗ (six fun s b => dutyTok ER (recvC (rt c) s b) 0 true))
    ∗ (cred (tallyAt (barC c) () 2) ∗ (six fun s b => cred (tallyAt (recvC c s b) () N)))
    ∗ pt c cc0_stg0_0 (fA c) ∗ pt c cc0_stg1_0 (fW c)
    ∗ (slabAny c (srcSlab (F := F) 0 0).mem ∗ slabAny c (srcSlab (F := F) 0 1).mem) ∗ slots c
    ∗ (slabAny c (slab3 Pref 0) ∗ slabAny c (slab3 Pref 1))
    ∗ owed c (O₀ c))

/-- What it ends with: every counter back at zero, the operands, the scratch, the sums in the result's
    buffer, and nothing owed. -/
def bodyPost (c : Dev nD) : sProp 𝕄 :=
  iprop(semVal (barC c) 0 ∗ (six fun s b => semVal (sendC c s b) 0) ∗ (six fun s b => semVal (recvC c s b) 0)
    ∗ pt c cc0_stg0_0 (fA c) ∗ pt c cc0_stg1_0 (fW c)
    ∗ (six fun s b => slabAny c (srcSlab (F := F) s b).mem)
    ∗ (slabAny c (slab3 Pref 0) ∗ slabAny c (slab3 Pref 1))
    ∗ (slabAt c (slab3 Oref 0) (kept fA fW 0 c) ∗ slabAt c (slab3 Oref 1) (kept fA fW 1 c))
    ∗ owed c 0)

/-- A step of the ring that sends its sum on. -/
theorem passOn_spec (c : Dev nD) (s : Fin 2) (b : Fin 2) (l : List (Fin 3 × Fin 2))
    (hl : ∀ p ∈ (s.succ, b) :: l, 2 + 2 * s.val + b.val < 2 + 2 * p.1.val + p.2.val) {R : Type} (rest : PUnit → Code F R) (Q : R → sProp 𝕄) :
    iprop(invs fA fW K ∗ levAts L lv ∗ pt c cc0_stg0_0 (fA c) ∗ pt c cc0_stg1_0 (fW c) ∗ slabAny c (slab3 Pref b)
        ∗ cred (tallyAt (recvC c s.castSucc b) () N) ∗ owed c (owing c ((s.succ, b) :: l)) ∗ atPos ER (recvC c s.castSucc b) 0 ∅ 0
        ∗ slabAny (rt c) (dstSlab (F := F) s.succ b).mem
        ∗ dutyTok ER (sendC c s.succ b) 0 true ∗ reached ER (sendC c s.succ b) 0
        ∗ dutyTok ER (recvC (rt c) s.succ b) 0 true ∗ reached ER (recvC (rt c) s.succ b) 0
        ∗ (pt c cc0_stg0_0 (fA c) -∗ pt c cc0_stg1_0 (fW c) -∗ slabAny c (slab3 Pref b)
          -∗ owed c (owing c l) -∗ atPos ER (recvC c s.castSucc b) (0 + 1) ∅ 0
          -∗ cred (tallyAt (sendC c s.succ b) () N) -∗ runs c (rest ⟨⟩) Q))
      ⊢ runs c (turnOnce c s.castSucc b >>= fun _ => send (srcSlab s.succ b) (dstSlab s.succ b) (rt c) (sendS s.succ b) (recvS s.succ b) >>= rest) Q := by
  unfold runs
  iintro ⟨#HI, #Hlev, HA, HW, HP, Hc, HO, Ha, Hd, HtS, #HrS, HtR, #HrR, Hk⟩
  rw [wp_bind]
  iapply (turnOnce_spec fA fW K c s.castSucc b ((s.succ, b) :: l) hl _)
  iframe HI Hlev HA HW HP Hc HO Ha
  iintro HA HW HP HO Ha HD
  rw [wp_bind]
  iapply (send_spec fA fW K c s.succ b l _)
  iframe HI Hd HO HtS HrS HtR HrR
  isplitl [HD]
  · fin_cases s <;> iexact HD
  iintro Hc HO
  iapply Hk $$ [HA] [HW] [HP] [HO] [Ha] [Hc]
  · iexact HA
  · iexact HW
  · iexact HP
  · iexact HO
  · iexact Ha
  iexact Hc

/-- The body's run on one device. -/
theorem body_run (c : Dev nD) (Q : PUnit → sProp 𝕄) :
    iprop(bodyPre fA fW K c ∗ (bodyPost fA fW c -∗ Q ⟨⟩)) ⊢ runs c (ringSteps (F := F)) Q := by
  unfold ringSteps runs bodyPre six
  iintro ⟨⟨#HI, #Hlev, ⟨#HrL, #HrR, ⟨#Hs00, #Hs01, #Hs10, #Hs11, #Hs20, #Hs21⟩, #Hfr⟩,
    ⟨HaB, ⟨Ha00, Ha01, Ha10, Ha11, Ha20, Ha21⟩, ⟨Hv00, Hv01, Hv10, Hv11, Hv20, Hv21⟩⟩,
    ⟨HtL, HtR, ⟨Ht00, Ht01, Ht10, Ht11, Ht20, Ht21⟩, ⟨Hu00, Hu01, Hu10, Hu11, Hu20, Hu21⟩⟩,
    ⟨HcB, Hc00, Hc01, Hc10, Hc11, Hc20, Hc21⟩, HA, HW, ⟨HS0, HS1⟩, Hsl, ⟨HP0, HP1⟩, HO⟩, Hk⟩
  rw [wp_bind]
  simp only [Prog.lift, wp_deviceId, wp_ret]
  imodintro
  rw [wp_bind]
  iapply (greet_spec fA fW K c _)
  iframe HI Hlev Hsl Hfr HO HcB HaB HtL HrL HtR HrR
  iintro HO HaB Hsl Hfn
  unfold slots fresh six
  icases Hsl with ⟨Hd00, Hd01, Hd10, Hd11, Hd20, Hd21⟩
  icases Hfn with ⟨#Hf00, #Hf01, #Hf10, #Hf11, #Hf20, #Hf21⟩
  rw [wp_bind]
  iapply (opening_spec fA fW K c 0 [(0, 1), (1, 0), (1, 1), (2, 0), (2, 1)] _)
  iframe HI HA HW HS0 Hd00 HO Ht00 Hs00 Hu00 Hf00
  iintro HA HW He00 HO
  rw [wp_bind]
  iapply (opening_spec fA fW K c 1 [(1, 0), (1, 1), (2, 0), (2, 1)] _)
  iframe HI HA HW HS1 Hd01 HO Ht01 Hs01 Hu01 Hf01
  iintro HA HW He01 HO
  iapply (passOn_spec fA fW K c 0 0 [(1, 1), (2, 0), (2, 1)] (by decide) _ Q)
  iframe HI Hlev HA HW HP0 Hc00 HO Hv00 Hd10 Ht10 Hs10 Hu10 Hf10
  iintro HA HW HP0 HO Hv00 He10
  iapply (passOn_spec fA fW K c 0 1 [(2, 0), (2, 1)] (by decide) _ Q)
  iframe HI Hlev HA HW HP1 Hc01 HO Hv01 Hd11 Ht11 Hs11 Hu11 Hf11
  iintro HA HW HP1 HO Hv01 He11
  iapply (passOn_spec fA fW K c 1 0 [(2, 1)] (by decide) _ Q)
  iframe HI Hlev HA HW HP0 Hc10 HO Hv10 Hd20 Ht20 Hs20 Hu20 Hf20
  iintro HA HW HP0 HO Hv10 He20
  iapply (passOn_spec fA fW K c 1 1 [] (by decide) _ Q)
  iframe HI Hlev HA HW HP1 Hc11 HO Hv11 Hd21 Ht21 Hs21 Hu21 Hf21
  iintro HA HW HP1 HO Hv11 He21
  unfold runs
  rw [wp_bind]
  iapply (turnOnce_spec fA fW K c 2 0 [] (by decide) _)
  iframe HI Hlev HA HW HP0 Hc20 HO Hv20
  iintro HA HW HP0 HO Hv20 HR0
  rw [wp_bind]
  iapply (turnOnce_spec fA fW K c 2 1 [] (by decide) _)
  iframe HI Hlev HA HW HP1 Hc21 HO Hv21
  iintro HA HW HP1 HO Hv21 HR1
  rw [wp_bind]
  iapply (sent_spec fA fW K c 0 0 _)
  iframe HI He00 HO Ha00
  iintro HO Ha00 HS00
  rw [wp_bind]
  iapply (sent_spec fA fW K c 0 1 _)
  iframe HI He01 HO Ha01
  iintro HO Ha01 HS01
  rw [wp_bind]
  iapply (sent_spec fA fW K c 1 0 _)
  iframe HI He10 HO Ha10
  iintro HO Ha10 HS10
  rw [wp_bind]
  iapply (sent_spec fA fW K c 1 1 _)
  iframe HI He11 HO Ha11
  iintro HO Ha11 HS11
  rw [wp_bind]
  iapply (sent_spec fA fW K c 2 0 _)
  iframe HI He20 HO Ha20
  iintro HO Ha20 HS20
  iapply (wp_fupd)
  iapply (sent_spec fA fW K c 2 1 _)
  iframe HI He21 HO Ha21
  iintro HO Ha21 HS21
  imod (close fA fW K (bar_mem c)) $$ [HaB] with HB
  · iframe HI HaB
  imod (close_six fA fW K (sendC c) fun s b => send_mem c s b) $$ [Ha00 Ha01 Ha10 Ha11 Ha20 Ha21] with HSs
  · unfold six
    iframe HI Ha00 Ha01 Ha10 Ha11 Ha20 Ha21
  imod (close_six fA fW K (recvC c) fun s b => recv_mem c s b) $$ [Hv00 Hv01 Hv10 Hv11 Hv20 Hv21] with HVs
  · unfold six
    iframe HI Hv00 Hv01 Hv10 Hv11 Hv20 Hv21
  imodintro
  iapply Hk
  unfold bodyPost kept
  iframe HB HSs HVs HA HW HP0 HP1 HO HR0 HR1
  unfold six
  iframe HS00 HS01 HS10 HS11 HS20 HS21

end Run

end Cert.Ring
-- ==== Proof.Whole.lean ====
/- A buffer held whole is held slab by slab, and back: the landing buffers, the pair of slabs of products,
   and the result's pair of slabs, whose slabs' contents name the whole's. -/
module

public import proofs.«01_k».proof.Proof.Body
public import Idealize.ShloMosaic.Lib.Ring
public import Idealize.ShloMosaic.Lib.Pipeline.Kit

@[expose] public section

noncomputable section

namespace Cert.Ring

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ

/-- Where slab `b` of a pair lies in its buffer. -/
theorem pair_emb (b : Fin 2) (h : S512x4096.numel = S1x512x4096.numel) (p : S512x4096.Idx) :
    (Rect.unit (s := S2x512x4096) ![b.val, 0, 0] S1x512x4096.size (inbSlab3 b)).emb (Shape.reshapeEquiv h p)
      = (ix3 b (p 0) (p 1) : S2x512x4096.Idx) := by
  have e := reshapeEquiv_ix2_1ab (a := 512) (b := 4096) h (p 0) (p 1)
  have i : (ix2 (p 0) (p 1) : S512x4096.Idx) = p := by
    funext a; match a with
    | ⟨0, _⟩ => rfl
    | ⟨1, _⟩ => rfl
  rw [← i]
  refine (congrArg _ e).trans ?_
  funext a
  apply Fin.ext
  match a with
  | ⟨0, _⟩ => rfl
  | ⟨1, _⟩ => show 0 + 1 * (p 0).val = (p 0).val; omega
  | ⟨2, _⟩ => show 0 + 1 * (p 1).val = (p 1).val; omega

/-- The elements of the slab rectangle `b` of a pair. -/
theorem mem_pair (b : Fin 2) (i : S2x512x4096.Idx) :
    i ∈ (Rect.unit (s := S2x512x4096) ![b.val, 0, 0] S1x512x4096.size (inbSlab3 b)).set ↔ i 0 = b := by
  rw [Rect.mem_set_unit]
  constructor
  · intro h
    have h0 := h 0
    change b.val ≤ (i 0).val ∧ (i 0).val < b.val + 1 at h0
    exact Fin.ext (by omega)
  · rintro rfl a
    match a with
    | ⟨0, _⟩ => exact ⟨le_refl (i 0).val, Nat.lt_succ_self (i 0).val⟩
    | ⟨1, _⟩ => exact ⟨Nat.zero_le _, lt_of_lt_of_eq (i 1).isLt (Nat.zero_add 512).symm⟩
    | ⟨2, _⟩ => exact ⟨Nat.zero_le _, lt_of_lt_of_eq (i 2).isLt (Nat.zero_add 4096).symm⟩

/-- The elements of the slab rectangle `(s, b)` of the landing buffers. -/
theorem mem_land (s : Fin 3) (b : Fin 2) (i : S3x2x512x4096.Idx) :
    i ∈ (Rect.unit (s := S3x2x512x4096) ![s.val, b.val, 0, 0] S1x1x512x4096.size (inbSlab4 s b)).set ↔ (s, b) = (i 0, i 1) := by
  rw [Rect.mem_set_unit]
  constructor
  · intro h
    have h0 := h 0
    have h1 := h 1
    change s.val ≤ (i 0).val ∧ (i 0).val < s.val + 1 at h0
    change b.val ≤ (i 1).val ∧ (i 1).val < b.val + 1 at h1
    exact Prod.ext (Fin.ext (by show s.val = (i 0).val; omega)) (Fin.ext (by show b.val = (i 1).val; omega))
  · intro h
    obtain ⟨rfl, rfl⟩ := Prod.mk.inj h
    intro a
    match a with
    | ⟨0, _⟩ => exact ⟨le_refl (i 0).val, Nat.lt_succ_self (i 0).val⟩
    | ⟨1, _⟩ => exact ⟨le_refl (i 1).val, Nat.lt_succ_self (i 1).val⟩
    | ⟨2, _⟩ => exact ⟨Nat.zero_le _, lt_of_lt_of_eq (i 2).isLt (Nat.zero_add 512).symm⟩
    | ⟨3, _⟩ => exact ⟨Nat.zero_le _, lt_of_lt_of_eq (i 3).isLt (Nat.zero_add 4096).symm⟩

theorem set_slabP (b : Fin 2) : (slab3 Pref b).view.set = (Rect.unit (s := S2x512x4096) ![b.val, 0, 0] S1x512x4096.size (inbSlab3 b)).set :=
  (View.set_reshape _ _).trans (View.set_slice_whole _ _)
theorem set_slabO (b : Fin 2) : (slab3 Oref b).view.set = (Rect.unit (s := S2x512x4096) ![b.val, 0, 0] S1x512x4096.size (inbSlab3 b)).set :=
  (View.set_reshape _ _).trans (View.set_slice_whole _ _)
theorem set_slabC (s : Fin 3) (b : Fin 2) :
    (slab4 Cref s b).view.set = (Rect.unit (s := S3x2x512x4096) ![s.val, b.val, 0, 0] S1x1x512x4096.size (inbSlab4 s b)).set :=
  (View.set_reshape _ _).trans (View.set_slice_whole _ _)

/-- Sets named by the value of a function at their elements part the whole. -/
theorem part_disjoint {X B : Type} [DecidableEq X] (I : B → Finset X) (k : X → B) (h : ∀ b i, i ∈ I b ↔ b = k i) (b b' : B) (hne : b ≠ b') :
    Disjoint (I b) (I b') :=
  Finset.disjoint_left.mpr fun i hi hi' => hne (((h b i).mp hi).trans ((h b' i).mp hi').symm)
theorem part_cover {X B : Type} [Fintype X] [DecidableEq X] [Fintype B] (I : B → Finset X) (k : X → B) (h : ∀ b i, i ∈ I b ↔ b = k i) :
    Finset.univ.biUnion I = Finset.univ :=
  Finset.eq_univ_of_forall fun i => Finset.mem_biUnion.mpr ⟨k i, Finset.mem_univ _, (h _ _).mpr rfl⟩

abbrev partP (b : Fin 2) : Finset S2x512x4096.Idx := (slab3 Pref b).view.set
abbrev partO (b : Fin 2) : Finset S2x512x4096.Idx := (slab3 Oref b).view.set
abbrev partC (k : Fin 3 × Fin 2) : Finset S3x2x512x4096.Idx := (slab4 Cref k.1 k.2).view.set

theorem mem_partP (b : Fin 2) (i : S2x512x4096.Idx) : i ∈ partP b ↔ b = i 0 := by
  unfold partP; rw [set_slabP, mem_pair]; exact eq_comm
theorem mem_partO (b : Fin 2) (i : S2x512x4096.Idx) : i ∈ partO b ↔ b = i 0 := by
  unfold partO; rw [set_slabO, mem_pair]; exact eq_comm
theorem mem_partC (k : Fin 3 × Fin 2) (i : S3x2x512x4096.Idx) : i ∈ partC k ↔ k = (i 0, i 1) := by
  unfold partC; rw [set_slabC, mem_land]

theorem six_eq (Φ : Fin 3 → Fin 2 → sProp 𝕄) : bigSep Finset.univ (fun k : Fin 3 × Fin 2 => Φ k.1 k.2) = six Φ :=
  bigSep_univ_eq_bigSepL [(0, 0), (0, 1), (1, 0), (1, 1), (2, 0), (2, 1)] (by decide) (by decide) _

theorem two_eq (Φ : Fin 2 → sProp 𝕄) : bigSep Finset.univ Φ = iprop(Φ 0 ∗ Φ 1) := BI.bigSep_fin_two Φ

/-- A buffer held whole is held part by part, over parts named by the value of a function. -/
theorem parts_split {ℓ : Loc nD τ sig} {B : Type} [Fintype B] (I : B → Finset (Idx ℓ)) (k : Idx ℓ → B) (h : ∀ b i, i ∈ I b ↔ b = k i) :
    (iprop(∃ f, ℓ ↦{fullShare} f) : sProp 𝕄) ⊢ bigSep Finset.univ fun b => iprop(∃ f, ℓ ↦[I b]{fullShare} f) := by
  iintro ⟨%f, H⟩
  have e : (ℓ ↦{fullShare} f : sProp 𝕄) = bigSep Finset.univ fun b => ℓ ↦[I b]{fullShare} f :=
    Idealize.ShloMosaic.Ring.pointsTo_blocks I (part_disjoint _ _ h) (part_cover _ _ h) f
  have h1 : ∀ b, (ℓ ↦[I b]{fullShare} f : sProp 𝕄) ⊢ iprop(∃ g, ℓ ↦[I b]{fullShare} g) := fun b => by
    iintro H
    iexists f
    iexact H
  ihave H := (Entails.of_eq e) $$ H
  iapply (show (bigSep Finset.univ fun b => (ℓ ↦[I b]{fullShare} f : sProp 𝕄)) ⊢ _ from BI.bigSep_mono fun b _ => h1 b)
  iexact H

/-- The landing buffers held whole are held slab by slab; -/
theorem land_split (c : Dev nD) : iprop(∃ f, pt c cc0_scratch0 f) ⊢ (six fun s b => slabAny c (slab4 Cref s b) : sProp 𝕄) := by
  rw [← six_eq]
  unfold slabAny
  exact parts_split (ℓ := (c : Thread nD τ).loc cc0_scratch0) partC _ mem_partC

/-- and back. -/
theorem land_join (c : Dev nD) : (six fun s b => slabAny c (slab4 Cref s b) : sProp 𝕄) ⊢ iprop(∃ f, pt c cc0_scratch0 f) := by
  rw [← six_eq]
  unfold slabAny
  exact Idealize.ShloMosaic.Ring.pointsTo_blocks_join_exists (ℓ := (c : Thread nD τ).loc cc0_scratch0) (q := fullShare) partC (part_disjoint _ _ mem_partC) (part_cover _ _ mem_partC)
    (fun _ => FloatOps.ofBits .bf16 0)

theorem prod_split (c : Dev nD) : iprop(∃ f, pt c cc0_scratch1 f) ⊢ (iprop(slabAny c (slab3 Pref 0) ∗ slabAny c (slab3 Pref 1)) : sProp 𝕄) := by
  rw [← two_eq fun b => slabAny c (slab3 Pref b)]
  unfold slabAny
  exact parts_split (ℓ := (c : Thread nD τ).loc cc0_scratch1) partP _ mem_partP

theorem prod_join (c : Dev nD) : (iprop(slabAny c (slab3 Pref 0) ∗ slabAny c (slab3 Pref 1)) : sProp 𝕄) ⊢ iprop(∃ f, pt c cc0_scratch1 f) := by
  rw [← two_eq fun b => slabAny c (slab3 Pref b)]
  unfold slabAny
  exact Idealize.ShloMosaic.Ring.pointsTo_blocks_join_exists (ℓ := (c : Thread nD τ).loc cc0_scratch1) (q := fullShare) partP (part_disjoint _ _ mem_partP) (part_cover _ _ mem_partP)
    (fun _ => FloatOps.ofBits .bf16 0)

theorem out_split (c : Dev nD) : iprop(∃ f, pt c cc0_stg2_0 f) ⊢ (iprop(slabAny c (slab3 Oref 0) ∗ slabAny c (slab3 Oref 1)) : sProp 𝕄) := by
  rw [← two_eq fun b => slabAny c (slab3 Oref b)]
  unfold slabAny
  exact parts_split (ℓ := (c : Thread nD τ).loc cc0_stg2_0) partO _ mem_partO

/-- The pair of slabs with the contents `V`. -/
def pairOf (V : Fin 2 → Tile F) : S2x512x4096.Idx → Elt F .bf16 := fun i => V (i 0) (ix2 (i 1) (i 2))

/-- A slab of the result holding `V b` is the result's part there at the pair's contents. -/
theorem out_slab (c : Dev nD) (V : Fin 2 → Tile F) (b : Fin 2) :
    slabAt c (slab3 Oref b) (V b) ⊢ (((c : Thread nD τ).loc cc0_stg2_0) ↦[partO b]{fullShare} (pairOf V) : sProp 𝕄) := by
  unfold slabAt
  iintro ⟨%f, %hf, H⟩
  rw [pointsTo_congr (ℓ := (c : Thread nD τ).loc cc0_stg2_0) (I := partO b) (f := pairOf V) (g := f) fun i hi => ?_]
  · iexact H
  have h0 : b = i 0 := (mem_partO b i).mp hi
  have he := congrFun hf (ix2 (i 1) (i 2))
  have hp := pair_emb b (by decide +kernel) (ix2 (i 1) (i 2))
  have hi' : (ix3 b (i 1) (i 2) : S2x512x4096.Idx) = i := by rw [h0]; exact (eq_ix3 i).symm
  show V (i 0) (ix2 (i 1) (i 2)) = f i
  rw [← h0, ← he]
  exact congrArg f (hp.trans hi')

/-- The result held slab by slab is held whole. -/
theorem out_join (c : Dev nD) (V : Fin 2 → Tile F) :
    (iprop(slabAt c (slab3 Oref 0) (V 0) ∗ slabAt c (slab3 Oref 1) (V 1)) : sProp 𝕄) ⊢ pt c cc0_stg2_0 (pairOf V) := by
  rw [← two_eq fun b => slabAt c (slab3 Oref b) (V b)]
  exact (BI.bigSep_mono fun b _ => out_slab c V b).trans
    (Entails.of_eq (Idealize.ShloMosaic.Ring.pointsTo_blocks (ℓ := (c : Thread nD τ).loc cc0_stg2_0) (q := fullShare) partO (part_disjoint _ _ mem_partO) (part_cover _ _ mem_partO) _).symm)

end Cert.Ring
-- ==== Proof.BodyEq.lean ====
/- The printed body is the program of `Program.lean`. -/
module

public import proofs.«01_k».proof.Proof.Program
public import Idealize.ShloMosaic.Lib.Pipeline.Value

@[expose] public section

noncomputable section

namespace Cert.Ring

open Idealize.ShloMosaic Idealize.SL.Sem
open Cert.KernelIdeal Cert.KernelIdeal.Gen

variable {F : FTy → Type} [FloatOps F]

/-- Two programs that make the same request and go on alike are equal. -/
theorem step_congr {α β : Type} {e e' : Code F α} {k k' : α → Code F β} (he : e = e') (hk : ∀ x, k x = k' x) :
    (e >>= k) = (e' >>= k') := by
  subst he; exact congrArg (e >>= ·) (funext hk)

set_option maxRecDepth 65536 in
set_option maxHeartbeats 4000000 in
/-- The printed body is the program of `Program.lean`. -/
theorem body_eq (A : Memref sig .tc .vmem S4096x1024 .bf16) (hA : A.IsWhole) (W : Memref sig .tc .vmem S1024x4096 .bf16) (hW : W.IsWhole)
    (O : Memref sig .tc .vmem S2x512x4096 .bf16) (hO : O.IsWhole) (C : Memref sig .tc .vmem S3x2x512x4096 .bf16) (hC : C.IsWhole)
    (P : Memref sig .tc .vmem S2x512x4096 .bf16) (hP : P.IsWhole) (ss rs : DmaSems sig S3x2) :
    cc0_body (F := F) A hA W hW O hO C hC P hP ss rs = ringBody A W O hO C hC P hP ss rs := by
  rw [cc0_body_eq_skeleton]
  simp only [cc0_body_skel, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel,
    k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, shapeCast_self, bind_assoc, pure_bind]
  simp only [ringBody, greet, dotRows, dotCol, addRows, addCol, send, waitFor, getCol, landSlab, pairSlab, bind_assoc]
  iterate 221 refine step_congr rfl fun _ => ?_
  rfl

end Cert.Ring
-- ==== Proof.Region.lean ====
/- The one kernel launch between the host's reshape and the host's conversion: what each device's buffers hold
   before and after it, and the ring's body as the launch's one step. -/
module

public import proofs.«01_k».proof.Proof.Whole
public import proofs.«01_k».proof.Proof.BodyEq
public import proofs.«01_k».proof.Proof.Gen.KernelIdeal.Launch
public import proofs.«01_k».proof.Proof.Gen.KernelIdeal.Points
public import Idealize.ShloMosaic.Lib.Pipeline.RegionTalk
public import Idealize.ShloMosaic.Lib.Pipeline.Value

@[expose] public section

noncomputable section

namespace Cert.Ring

open Idealize.ShloMosaic Idealize.ShloMosaic.TcCoe Idealize.ShloMosaic.Rounds
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ

variable (m : (ℓ : Loc nD τ sig) → Buf (Elt F) ℓ)

/-! ## Contents -/

/-- The buffers at the start, -/
abbrev V₀ (c : Dev nD) : Valuation τ sig (Elt F) := fun b => m (c, b)
/-- after the reshape, -/
abbrev V₁ (c : Dev nD) : Valuation τ sig (Elt F) := StableHlo.after hostOps0 (V₀ m c)

/-- The two operands of the launch on device `c`. -/
def opA (c : Dev nD) : S4096x1024.Idx → Elt F .bf16 := V₁ m c main_v1
def opW (c : Dev nD) : S1024x4096.Idx → Elt F .bf16 := V₁ m c main_arg1

/-- What the launch computes there: both batches' rows. -/
def result (c : Dev nD) : S2x512x4096.Idx → Elt F .bf16 := pairOf fun b => kept (opA m) (opW m) b c

/-- after the launch, -/
def V₂ (c : Dev nD) : Valuation τ sig (Elt F) := Function.update (V₁ m c) (Proc.devRef .tc main_v2) (result m c)
/-- and after the conversion. -/
abbrev V₃ (c : Dev nD) : Valuation τ sig (Elt F) := StableHlo.after hostOps1 (V₂ m c)

theorem V₂_out (c : Dev nD) : V₂ m c (Proc.devRef .tc main_v2) = result m c := Function.update_self ..
theorem V₂_ne (c : Dev nD) (b : DevRef τ sig) (h : b ≠ Proc.devRef .tc main_v2) : V₂ m c b = V₁ m c b :=
  Function.update_of_ne h ..

/-! ## What enters the step and what leaves it -/

/-- The two scratch buffers, whatever they hold. -/
def scratch (c : Dev nD) : sProp 𝕄 := iprop((∃ f, pt c cc0_scratch0 f) ∗ (∃ f, pt c cc0_scratch1 f))

/-- A device's share of the ring's bookkeeping, its semaphores opened. -/
def opened (K : GSem nD τ sig → ℕ) (c : Dev nD) : sProp 𝕄 :=
  iprop(invs (opA m) (opW m) K ∗ levAts L lv
    ∗ (reached ER (barC (lf c)) 0 ∗ reached ER (barC (rt c)) 0 ∗ (six fun s b => reached ER (sendC c s b) 0) ∗ fresh c)
    ∗ (atPos ER (barC c) 0 ∅ 0 ∗ (six fun s b => atPos ER (sendC c s b) 0 ∅ 0) ∗ (six fun s b => atPos ER (recvC c s b) 0 ∅ 0))
    ∗ (dutyTok ER (barC (lf c)) 0 true ∗ dutyTok ER (barC (rt c)) 0 false
      ∗ (six fun s b => dutyTok ER (sendC c s b) 0 true) ∗ (six fun s b => dutyTok ER (recvC (rt c) s b) 0 true))
    ∗ (cred (tallyAt (barC c) () 2) ∗ six fun s b => cred (tallyAt (recvC c s b) () N)))

/-- Every semaphore of the ring back at zero. -/
def ownZero (c : Dev nD) : sProp 𝕄 :=
  iprop((six fun s b => semVal (sendC c s b) 0) ∗ six fun s b => semVal (recvC c s b) 0)

def enter (c : Dev nD) : sProp 𝕄 := iprop((∃ K, opened m K c) ∗ scratch c ∗ ∃ r, prngReg c r)
def leave (c : Dev nD) : sProp 𝕄 := iprop(semVal (barC c) 0 ∗ ownZero c ∗ scratch c ∗ ∃ r, prngReg c r)

def dat (c : Dev nD) : Dat τ (Elt F) Unit ℕ UU ℕ cfg0 c where
  A w := V₁ m c (Proc.devRef .tc (Pipeline.arrRef spec0 w))
  after w _ := match w with
    | ⟨0, _⟩ => opA m c
    | ⟨1, _⟩ => opW m c
    | ⟨2, _⟩ => result m c
  Φ t := if t.val = 0 then enter m c else leave c
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat m

theorem owed_first (c : Dev nD) : (dat m c).owed t0_0.castSucc = O₀ c := by
  show (if t0_0.castSucc.val = 0 then O₀ c else 0) = O₀ c
  exact if_pos rfl
theorem owed_last (c : Dev nD) : (dat m c).owed t0_0.succ = 0 := by
  show (if t0_0.succ.val = 0 then O₀ c else 0) = (0 : CellTallies nD τ sig Unit)
  exact if_neg (by simp)

theorem owed_of_owesAt (c : Dev nD) (t : Fin (cfg0.N + 1)) (O : CellTallies nD τ sig Unit) (h : (dat m c).owed t = O) :
    ((dat m c).owesAt () t : sProp 𝕄) ⊢ owed c O := by
  unfold Dat.owesAt Pipeline.owesWithin owed; rw [h]
  iintro ⟨%W, -, HO⟩; iexists W; iexact HO
theorem owesAt_of_owed (c : Dev nD) (t : Fin (cfg0.N + 1)) (O : CellTallies nD τ sig Unit) (h : (dat m c).owed t = O) :
    owed c O ⊢ ((dat m c).owesAt () t : sProp 𝕄) := by
  unfold Dat.owesAt Pipeline.owesWithin Dat.bound owed; rw [h]
  iintro ⟨%W, HO⟩; iexists W
  isplitr; · ipureintro; exact fun _ _ => Or.inl trivial
  iexact HO

/-- A whole buffer held at given contents, as the launch writes it. -/
theorem owns_buf (c : Dev nD) (b : Ref sig .tc) (X : b.ty.Contents (Elt F)) :
    (owns (Ix := Unit) (Name := ℕ) (U := UU) (Lvl := ℕ) (c : Thread nD τ) (Memref.whole b) fullShare X : sProp 𝕄) = pt c b X := by
  unfold owns
  simp only [Memref.view_whole, View.read_whole, View.set_whole]
  have h₁ : iprop(∃ f : Buf (Elt F) ((c : Thread nD τ).loc b), ⌜f = X⌝ ∗ ((c : Thread nD τ).loc b) ↦{fullShare} f) ⊢ (pt c b X : sProp 𝕄) := by
    iintro ⟨%f, %h, Hf⟩; subst h; iexact Hf
  have h₂ : (pt c b X : sProp 𝕄) ⊢ iprop(∃ f : Buf (Elt F) ((c : Thread nD τ).loc b), ⌜f = X⌝ ∗ ((c : Thread nD τ).loc b) ↦{fullShare} f) := by
    iintro Hf; iexists X; isplitr; · ipureintro; rfl
    iexact Hf
  exact BI.equiv_iff.mp ⟨h₁, h₂⟩

/-- A whole buffer read through the launch's one block of it. -/
theorem read_block (b : Ref sig .tc) (f : b.ty.Contents (Elt F)) (off : Fin b.ty.shape.rank → Nat) (h : ∀ a, off a = 0)
    (inb : ∀ a, off a + b.ty.shape.size a ≤ b.ty.shape.size a) :
    ((Memref.whole b).access (Rect.unit off b.ty.shape.size inb) : View sig .tc _ _ _).read (Elt F) f = f :=
  Memref.read_access_unit_zero (Elt F) b (funext h) inb f

theorem before_A (c : Dev nD) (d) : (dat m c).before (0 : Fin 3) t0_0 d = opA m c := by
  rw [Dat.before_fetched _ _ _ (fetch0_0 t0_0)]
  exact read_block main_v1 (opA m c) (fun a => 0 * S4096x1024.size a) (fun a => Nat.zero_mul _) fun a => Nat.le_of_eq (by rw [Nat.zero_mul, Nat.zero_add])
theorem before_W (c : Dev nD) (d) : (dat m c).before (1 : Fin 3) t0_0 d = opW m c := by
  rw [Dat.before_fetched _ _ _ (fetch0_1 t0_0)]
  exact read_block main_arg1 (opW m c) (fun a => 0 * S1024x4096.size a) (fun a => Nat.zero_mul _) fun a => Nat.le_of_eq (by rw [Nat.zero_mul, Nat.zero_add])

/-- What the step starts from and what it ends with, window by window. -/
def stepPre (c : Dev nD) : sProp 𝕄 :=
  iprop(enter m c ∗ (dat m c).owesAt () t0_0.castSucc
    ∗ (∃ d, pt c cc0_stg0_0 ((dat m c).before (0 : Fin 3) t0_0 d)) ∗ (∃ d, pt c cc0_stg1_0 ((dat m c).before (1 : Fin 3) t0_0 d))
    ∗ (∃ d, pt c cc0_stg2_0 ((dat m c).before (2 : Fin 3) t0_0 d)))
def stepPost (c : Dev nD) : sProp 𝕄 :=
  iprop(leave c ∗ (dat m c).owesAt () t0_0.succ ∗ pt c cc0_stg0_0 (opA m c) ∗ pt c cc0_stg1_0 (opW m c) ∗ pt c cc0_stg2_0 (result m c))

theorem step_run (c : Dev nD) : stepPre m c ⊢ runs c ringSteps fun _ => stepPost m c := by
  unfold stepPre enter opened
  iintro ⟨⟨⟨%K, #HI, #HL, HR, HP, HT, HC⟩, HS, Hr⟩, HO, ⟨%d0, HA⟩, ⟨%d1, HW⟩, ⟨%d2, HD⟩⟩
  rw [before_A, before_W]
  unfold scratch
  icases HS with ⟨HS0, HS1⟩
  ihave HS0 := (land_split (F := F) c) $$ HS0
  ihave HS1 := (prod_split (F := F) c) $$ HS1
  ihave HD := (out_split (F := F) c) $$ [HD]
  · iexists _; iexact HD
  ihave HO := (owed_of_owesAt m c _ _ (owed_first m c)) $$ HO
  unfold six
  icases HS0 with ⟨H00, H01, H10, H11, H20, H21⟩
  icases HD with ⟨HD0, HD1⟩
  iapply (body_run (opA m) (opW m) K c _)
  isplitr [Hr]
  · unfold bodyPre slots six
    iframe HI HL HR HP HT HC HA HW HS1 HO
    isplitl [H00 H01]
    · isplitl [H00]; · iexact H00
      iexact H01
    isplitl [H10]; · iexact H10
    isplitl [H11]; · iexact H11
    isplitl [H20]; · iexact H20
    isplitl [H21]; · iexact H21
    isplitl [HD0]; · iexact HD0
    iexact HD1
  unfold bodyPost stepPost leave ownZero
  iintro ⟨HB, HSs, HVs, HA, HW, HC, HP, HD, HO⟩
  ihave HC := (land_join (F := F) c) $$ [HC]
  · iexact HC
  ihave HP := (prod_join (F := F) c) $$ HP
  ihave HD := (out_join (F := F) c fun b => kept (opA m) (opW m) b c) $$ HD
  ihave HO := (owesAt_of_owed m c _ _ (owed_last m c)) $$ HO
  unfold scratch result
  iframe HB HSs HVs HA HW HC HP HD HO Hr

theorem phi_first (c : Dev nD) : (dat m c).Φ t0_0.castSucc = enter m c := by
  show (if t0_0.castSucc.val = 0 then enter m c else leave c) = _
  exact if_pos rfl
theorem phi_last (c : Dev nD) : (dat m c).Φ t0_0.succ = leave c := by
  show (if t0_0.succ.val = 0 then enter m c else leave c) = _
  exact if_neg (by simp)

/-- The step's code is the ring's body. -/
theorem step_code : (defs₀ (F := F)) Proc.tc cfg0.body (cfg0.bodyArgs t0_0 (cfg0.slots t0_0)) = ringSteps := by
  refine Eq.trans ?_ (body_eq (F := F) Aref (Memref.isWhole_whole _) Wref (Memref.isWhole_whole _) Oref (Memref.isWhole_whole _)
    Cref (Memref.isWhole_whole _) Pref (Memref.isWhole_whole _) cc0_scratch2 cc0_scratch3 |>.trans ringBody_eq)
  rfl

/-- The launch's one step. -/
theorem step_obligation (c : Dev nD) : BodyObligation (dat (F := F) m c) (defs₀ (F := F)) 𝒱₀ () Set.univ := fun t => by
  rw [fin_N0 t, bigSep_W0, bigSep_W0, step_code]
  simp only [owns_buf]
  rw [phi_first, phi_last, show (dat m c).after (0 : Fin 3) t0_0 = opA m c from rfl, show (dat m c).after (1 : Fin 3) t0_0 = opW m c from rfl,
    show (dat m c).after (2 : Fin 3) t0_0 = result m c from rfl]
  have h := step_run m c
  unfold stepPre stepPost runs at h
  convert h using 2

end Cert.Ring
-- ==== Proof.Deal.lean ====
/- What the start of the program deals each device of the ring's bookkeeping: its semaphores' positions, the
   tokens of the duties that it pays, and the credits that it will receive. -/
module

public import proofs.«01_k».proof.Proof.Region
public import Idealize.ShloMosaic.Harness.Basic

@[expose] public section

noncomputable section

namespace Cert.Ring

open Idealize.ShloMosaic Idealize.ShloMosaic.TcCoe Idealize.ShloMosaic.Rounds
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ

/-! ## A device's own semaphores, as two sixes -/

theorem own_sixes (Ψ : SemLoc sig → sProp 𝕄) : bigSep Finset.univ (fun k : Fin 12 => Ψ (osem k))
    = iprop((six fun s b => Ψ (.dma (sendS s b))) ∗ six fun s b => Ψ (.dma (recvS s b))) := by
  have hs : ∀ s b, Ψ (.dma (sendS s b)) = Ψ (osem (sendIx s b)) := fun s b => congrArg Ψ (osem_send s b).symm
  have hr : ∀ s b, Ψ (.dma (recvS s b)) = Ψ (osem (recvIx s b)) := fun s b => congrArg Ψ (osem_recv s b).symm
  simp only [hs, hr]
  rw [bigSep_univ_eq_bigSepL [sendIx 0 0, sendIx 0 1, sendIx 1 0, sendIx 1 1, sendIx 2 0, sendIx 2 1,
    recvIx 0 0, recvIx 0 1, recvIx 1 0, recvIx 1 1, recvIx 2 0, recvIx 2 1] (by decide) (by decide)]
  have h₁ : (iprop(Ψ (osem (sendIx 0 0)) ∗ Ψ (osem (sendIx 0 1)) ∗ Ψ (osem (sendIx 1 0)) ∗ Ψ (osem (sendIx 1 1)) ∗ Ψ (osem (sendIx 2 0)) ∗ Ψ (osem (sendIx 2 1))
        ∗ Ψ (osem (recvIx 0 0)) ∗ Ψ (osem (recvIx 0 1)) ∗ Ψ (osem (recvIx 1 0)) ∗ Ψ (osem (recvIx 1 1)) ∗ Ψ (osem (recvIx 2 0)) ∗ Ψ (osem (recvIx 2 1))) : sProp 𝕄)
      ⊢ iprop((six fun s b => Ψ (osem (sendIx s b))) ∗ six fun s b => Ψ (osem (recvIx s b))) := by
    unfold six
    iintro ⟨H0, H1, H2, H3, H4, H5, H⟩
    isplitl [H0 H1 H2 H3 H4 H5]
    · iframe H0 H1 H2 H3 H4 H5
    · iexact H
  have h₂ : iprop((six fun s b => Ψ (osem (sendIx s b))) ∗ six fun s b => Ψ (osem (recvIx s b)))
      ⊢ (iprop(Ψ (osem (sendIx 0 0)) ∗ Ψ (osem (sendIx 0 1)) ∗ Ψ (osem (sendIx 1 0)) ∗ Ψ (osem (sendIx 1 1)) ∗ Ψ (osem (sendIx 2 0)) ∗ Ψ (osem (sendIx 2 1))
        ∗ Ψ (osem (recvIx 0 0)) ∗ Ψ (osem (recvIx 0 1)) ∗ Ψ (osem (recvIx 1 0)) ∗ Ψ (osem (recvIx 1 1)) ∗ Ψ (osem (recvIx 2 0)) ∗ Ψ (osem (recvIx 2 1))) : sProp 𝕄) := by
    unfold six
    iintro ⟨⟨H0, H1, H2, H3, H4, H5⟩, H⟩
    isplitl [H0]; · iexact H0
    isplitl [H1]; · iexact H1
    isplitl [H2]; · iexact H2
    isplitl [H3]; · iexact H3
    isplitl [H4]; · iexact H4
    isplitl [H5]; · iexact H5
    iexact H
  exact BI.equiv_iff.mp ⟨h₁, h₂⟩

theorem bar_devices (Ψ : GSem nD τ sig → sProp 𝕄) : bigSep barCells Ψ = bigSep Finset.univ fun c : Dev nD => Ψ (barC c) :=
  bigSep_map (s := Finset.univ) barEmb (Φ := Ψ)

theorem own_devices (Ψ : GSem nD τ sig → sProp 𝕄) : bigSep ownCells Ψ
    = bigSep Finset.univ fun c : Dev nD => iprop((six fun s b => Ψ (sendC c s b)) ∗ six fun s b => Ψ (recvC c s b)) := by
  unfold ownCells
  rw [bigSep_map, bigSep_univ_prod]
  exact bigSep_congr fun c _ => own_sixes fun sm => Ψ ((c : Thread nD τ), sm)

theorem cells_disjoint : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

/-! ## The tokens -/

/-- The duty `d` of a cell's one round. -/
def dutyEmb (d : Bool) : GSem nD τ sig ↪ GSem nD τ sig × ℕ × Bool := ⟨fun g => (g, 0, d), fun _ _ h => congrArg Prod.fst h⟩

def ringToks : Finset (GSem nD τ sig × ℕ × Bool) :=
  (barCells.map (dutyEmb true) ∪ ownCells.map (dutyEmb true)) ∪ barCells.map (dutyEmb false)

theorem toks_disjoint : Disjoint (barCells.map (dutyEmb true)) (ownCells.map (dutyEmb true)) :=
  (Finset.disjoint_map _).mpr cells_disjoint
theorem toks_disjoint' : Disjoint (barCells.map (dutyEmb true) ∪ ownCells.map (dutyEmb true)) (barCells.map (dutyEmb false)) := by
  rw [Finset.disjoint_left]
  intro x h₁ h₂
  obtain ⟨g, -, rfl⟩ := Finset.mem_map.mp h₂
  rcases Finset.mem_union.mp h₁ with h | h <;>
  · obtain ⟨g', -, e⟩ := Finset.mem_map.mp h
    exact Bool.noConfusion (congrArg (fun x : GSem nD τ sig × ℕ × Bool => x.2.2) e)

theorem toks_of (S : Finset (GSem nD τ sig)) (d : Bool) :
    bigSep (S.map (dutyEmb d)) (fun x => (dutyTok ER x.1 x.2.1 x.2.2 : sProp 𝕄)) = bigSep S fun g => (dutyTok ER g 0 d : sProp 𝕄) :=
  bigSep_map (s := S) (dutyEmb d)

/-- The duties that device `c` pays. -/
def pays (c : Dev nD) : sProp 𝕄 :=
  iprop(dutyTok ER (barC (lf c)) 0 true ∗ dutyTok ER (barC (rt c)) 0 false
    ∗ (six fun s b => dutyTok ER (sendC c s b) 0 true) ∗ six fun s b => dutyTok ER (recvC (rt c) s b) 0 true)

theorem toks_dealt : bigSep ringToks (fun x => (dutyTok ER x.1 x.2.1 x.2.2 : sProp 𝕄)) ⊢ bigSep Finset.univ fun c : Dev nD => (pays c : sProp 𝕄) := by
  have e : bigSep ringToks (fun x => (dutyTok ER x.1 x.2.1 x.2.2 : sProp 𝕄))
      = iprop(((bigSep Finset.univ fun c : Dev nD => (dutyTok ER (barC (lf c)) 0 true : sProp 𝕄))
          ∗ ((bigSep Finset.univ fun c : Dev nD => (six fun s b => dutyTok ER (sendC c s b) 0 true : sProp 𝕄))
            ∗ bigSep Finset.univ fun c : Dev nD => (six fun s b => dutyTok ER (recvC (rt c) s b) 0 true : sProp 𝕄)))
          ∗ bigSep Finset.univ fun c : Dev nD => (dutyTok ER (barC (rt c)) 0 false : sProp 𝕄)) := by
    unfold ringToks
    rw [bigSep_union toks_disjoint', bigSep_union toks_disjoint, toks_of, toks_of, toks_of, bar_devices, own_devices, bar_devices, bigSep_sep',
      bigSep_univ_equiv turn.symm (fun c : Dev nD => (dutyTok ER (barC c) 0 true : sProp 𝕄)),
      bigSep_univ_equiv turn (fun c : Dev nD => (dutyTok ER (barC c) 0 false : sProp 𝕄)),
      bigSep_univ_equiv turn (fun c : Dev nD => (six fun s b => dutyTok ER (recvC c s b) 0 true : sProp 𝕄))]
    rfl
  rw [e]
  unfold pays
  simp only [bigSep_sep']
  iintro ⟨⟨H1, H2, H3⟩, H4⟩
  iframe H1 H4 H2 H3

/-! ## The credits -/

theorem owing_at (d c : Dev nD) (l : List (Fin 3 × Fin 2)) (s : Fin 3) (b : Fin 2) :
    owing d l (recvC c s b) () = if d = lf c then l.count (s, b) * N else 0 := by
  induction l with
  | nil => split
           · rw [List.count_nil, Nat.zero_mul]; rfl
           · rfl
  | cons p l ih =>
    show owing d l (recvC c s b) () + tallyAt (recvC (rt d) p.1 p.2) () N (recvC c s b) () = _
    rw [ih, tallyAt_apply]
    by_cases hd : d = lf c
    · subst hd
      rw [if_pos rfl, if_pos rfl, rt_lf]
      by_cases hp : p = (s, b)
      · subst hp; rw [if_pos ⟨rfl, rfl⟩, List.count_cons_self, Nat.succ_mul]
      · rw [if_neg, List.count_cons_of_ne hp, Nat.add_zero]
        rintro ⟨h, -⟩
        have := congrArg (fun g : GSem nD τ sig => roleOf g.2) h
        dsimp only at this
        rw [role_recv, role_recv] at this
        injection this with h1 h2
        exact hp (Prod.ext h1.symm h2.symm)
    · rw [if_neg hd, if_neg hd, if_neg, Nat.add_zero]
      rintro ⟨h, -⟩
      exact hd (by rw [show c = rt d from congrArg (fun g : GSem nD τ sig => g.1.1) h, lf_rt])

theorem owing_bar (d c : Dev nD) (l : List (Fin 3 × Fin 2)) : owing d l (barC c) () = 0 := by
  by_contra h
  obtain ⟨p, -, e⟩ := owing_pos d l (barC c) () (Nat.pos_of_ne_zero h)
  have := congrArg (fun g : GSem nD τ sig => roleOf g.2) e
  dsimp only at this
  rw [role_bar, role_recv] at this
  exact Role.noConfusion this

theorem owed_at_recv (d c : Dev nD) (s : Fin 3) (b : Fin 2) : O₀ d (recvC c s b) () = if d = lf c then N else 0 := by
  have ne : ∀ c', recvC c s b ≠ barC c' := fun c' h => by
    have := congrArg (fun g : GSem nD τ sig => roleOf g.2) h
    dsimp only at this
    rw [role_bar, role_recv] at this
    exact Role.noConfusion this
  have hc : List.count (s, b) allSix = 1 := by clear ne; revert s b; decide
  unfold O₀
  rw [Pi.add_apply, Pi.add_apply, Finsupp.add_apply, Finsupp.add_apply, tallyAt_ne_cell (ne _), tallyAt_ne_cell (ne _), owing_at, hc, Nat.one_mul]
  simp

theorem owed_at_bar (d c : Dev nD) : O₀ d (barC c) () = (if d = lf c then 1 else 0) + if d = rt c then 1 else 0 := by
  have hr : (barC c = barC (rt d) ∧ () = ()) ↔ d = lf c :=
    ⟨fun h => by rw [show c = rt d from congrArg (fun g : GSem nD τ sig => g.1.1) h.1, lf_rt], fun h => ⟨by rw [h, rt_lf], rfl⟩⟩
  have hl : (barC c = barC (lf d) ∧ () = ()) ↔ d = rt c :=
    ⟨fun h => by rw [show c = lf d from congrArg (fun g : GSem nD τ sig => g.1.1) h.1, rt_lf], fun h => ⟨by rw [h, lf_rt], rfl⟩⟩
  unfold O₀
  rw [Pi.add_apply, Pi.add_apply, Finsupp.add_apply, Finsupp.add_apply, owing_bar, tallyAt_apply, tallyAt_apply, Nat.zero_add]
  congr 1
  · exact if_congr hr rfl rfl
  · exact if_congr hl rfl rfl

theorem credit_bar (c : Dev nD) :
    tallyOn (barC c) (launchCredit (Pipeline.owing O₀) 0 (barC c)) = (tallyAt (barC c) () 2 : CellTallies nD τ sig Unit) := by
  unfold tallyAt; refine congrArg _ (Finsupp.ext fun u => ?_)
  rw [Pipeline.launchCredit_owing, Finsupp.single_eq_same, Finset.sum_congr rfl fun d _ => owed_at_bar d c, Finset.sum_add_distrib,
    Finset.sum_ite_eq' Finset.univ (lf c) fun _ => 1, Finset.sum_ite_eq' Finset.univ (rt c) fun _ => 1, if_pos (Finset.mem_univ _), if_pos (Finset.mem_univ _)]

theorem credit_recv (c : Dev nD) (s : Fin 3) (b : Fin 2) :
    tallyOn (recvC c s b) (launchCredit (Pipeline.owing O₀) 0 (recvC c s b)) = (tallyAt (recvC c s b) () N : CellTallies nD τ sig Unit) := by
  unfold tallyAt; refine congrArg _ (Finsupp.ext fun u => ?_)
  rw [Pipeline.launchCredit_owing, Finsupp.single_eq_same, Finset.sum_congr rfl fun d _ => owed_at_recv d c s b,
    Finset.sum_ite_eq' Finset.univ (lf c) fun _ => N, if_pos (Finset.mem_univ _)]

/-- The credits that device `c` will receive. -/
def credits (c : Dev nD) : sProp 𝕄 := iprop(cred (tallyAt (barC c) () 2) ∗ six fun s b => cred (tallyAt (recvC c s b) () N))

theorem credits_dealt (c : Dev nD) : (Pipeline.launchCred O₀ c : sProp 𝕄) ⊢ credits c := by
  unfold Pipeline.launchCred credits
  refine (bigSep_subset (t := [SemLoc.reg barS, .dma (recvS 0 0), .dma (recvS 0 1), .dma (recvS 1 0), .dma (recvS 1 1),
    .dma (recvS 2 0), .dma (recvS 2 1)].toFinset) (Finset.subset_univ _)).trans ?_
  rw [bigSep_eq_bigSepL_of_eq [SemLoc.reg barS, .dma (recvS 0 0), .dma (recvS 0 1), .dma (recvS 1 0), .dma (recvS 1 1),
    .dma (recvS 2 0), .dma (recvS 2 1)] rfl (by decide)]
  unfold six
  beta_reduce
  rw [← credit_bar, ← credit_recv, ← credit_recv, ← credit_recv, ← credit_recv, ← credit_recv, ← credit_recv]
  exact Entails.of_eq (rfl : (_ : sProp 𝕄) = _)

end Cert.Ring
-- ==== Proof.Segments.lean ====
/- The program as three segments: the reshape, the launch of the ring, the conversion. -/
module

public import proofs.«01_k».proof.Proof.Deal

@[expose] public section

noncomputable section

namespace Cert.Ring

open Idealize.ShloMosaic Idealize.ShloMosaic.TcCoe Idealize.ShloMosaic.Rounds
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ
local notation "ℍ" => Pipeline.HostSeg (Ix := Unit) (Name := ℕ) (U := UU) (Lvl := ℕ) (pcfgs (F := F)) defs₀ 𝒱₀ L lv

variable (m : (ℓ : Loc nD τ sig) → Buf (Elt F) ℓ)

/-! ## Opening a device's own semaphores when the launch begins -/

instance six_persistent (Φ : Fin 3 → Fin 2 → sProp 𝕄) [∀ s b, BI.Persistent (Φ s b)] : BI.Persistent (six Φ) := by
  unfold six; infer_instance

theorem open_six (fA : Dev nD → S4096x1024.Idx → Elt F .bf16) (fW : Dev nD → S1024x4096.Idx → Elt F .bf16) (K : GSem nD τ sig → ℕ)
    (g : Fin 3 → Fin 2 → GSem nD τ sig) (hg : ∀ s b, g s b ∈ (barCells ∪ ownCells : Finset (GSem nD τ sig))) :
    iprop(invs fA fW K ∗ (six fun s b => openTok ER (g s b)) ∗ six fun s b => semVal (g s b) 0)
      ⊢ (|={Set.univ}=> iprop((six fun s b => atPos ER (g s b) 0 ∅ 0) ∗ six fun s b => reached ER (g s b) 0) : sProp 𝕄) := by
  have one : ∀ s b, iprop(invs fA fW K ∗ openTok ER (g s b) ∗ semVal (g s b) 0)
      ⊢ (|={Set.univ}=> iprop(atPos ER (g s b) 0 ∅ 0 ∗ reached ER (g s b) 0) : sProp 𝕄) := fun s b => by
    iintro ⟨#HI, Ht, Hs⟩
    iapply (Rounds.cell_open ER (rd fA fW) (g := g s b) (Set.mem_univ (K (g s b))))
    isplitr; · iapply (inv_at fA fW K (hg s b)); iexact HI
    isplitl [Ht] <;> iassumption
  unfold six
  iintro ⟨#HI, ⟨T0, T1, T2, T3, T4, T5⟩, S0, S1, S2, S3, S4, S5⟩
  imod (one 0 0) $$ [T0 S0] with ⟨A0, #R0⟩; · iframe HI T0 S0
  imod (one 0 1) $$ [T1 S1] with ⟨A1, #R1⟩; · iframe HI T1 S1
  imod (one 1 0) $$ [T2 S2] with ⟨A2, #R2⟩; · iframe HI T2 S2
  imod (one 1 1) $$ [T3 S3] with ⟨A3, #R3⟩; · iframe HI T3 S3
  imod (one 2 0) $$ [T4 S4] with ⟨A4, #R4⟩; · iframe HI T4 S4
  imod (one 2 1) $$ [T5 S5] with ⟨A5, #R5⟩; · iframe HI T5 S5
  imodintro
  isplitl [A0 A1 A2 A3 A4 A5]
  · iframe A0 A1 A2 A3 A4 A5
  iframe R0 R1 R2 R3 R4 R5

/-- A device's share before the launch begins: its own semaphores still closed. -/
def dealt (K : GSem nD τ sig → ℕ) (c : Dev nD) : sProp 𝕄 :=
  iprop(invs (opA m) (opW m) K ∗ (reached ER (barC (lf c)) 0 ∗ reached ER (barC (rt c)) 0) ∗ atPos ER (barC c) 0 ∅ 0
    ∗ ((six fun s b => openTok ER (sendC c s b)) ∗ six fun s b => openTok ER (recvC c s b)) ∗ pays c)

def Before (c : Dev nD) : sProp 𝕄 := iprop((∃ K, dealt m K c) ∗ credits c)
def Within (c : Dev nD) : sProp 𝕄 := iprop(∃ K, opened m K c)
def After (c : Dev nD) : sProp 𝕄 := semVal (barC c) 0

theorem ownSems_sixes (c : Dev nD) : (Pipeline.ownSems0 osem c : sProp 𝕄) = ownZero c :=
  own_sixes fun sm => semVal ((c : Thread nD τ), sm) 0

theorem ring_open (c : Dev nD) : iprop(Before m c ∗ Pipeline.ownSems0 osem c ∗ levAts L lv) ⊢ (|={Set.univ}=> Within m c : sProp 𝕄) := by
  rw [ownSems_sixes]
  unfold Before Within dealt ownZero pays credits
  iintro ⟨⟨⟨%K, #HI, ⟨#HL, #HR⟩, HA, ⟨HS, HV⟩, HT⟩, HC⟩, ⟨HS0, HV0⟩, #HLev⟩
  imod (open_six (opA m) (opW m) K (sendC c) fun s b => send_mem c s b) $$ [HS HS0] with ⟨HSA, #HSR⟩
  · iframe HI HS HS0
  imod (open_six (opA m) (opW m) K (recvC c) fun s b => recv_mem c s b) $$ [HV HV0] with ⟨HVA, #HVR⟩
  · iframe HI HV HV0
  imodintro
  iexists K
  unfold opened fresh
  iframe HI HLev HL HR HSR HVR HA HSA HVA HT HC

theorem ring_in (c : Dev nD) : iprop(Pipeline.scopedRest (Pipeline.pin (pcfgs (F := F)) adm 0).spec c ∗ (∃ r, prngReg c r)
      ∗ StableHlo.held (c.tc : Thread nD τ) ∅ (V₁ m c) ∗ Within m c) ⊢ (pdats m 0 c).Φ 0 := by
  rw [show (pdats m 0 c).Φ 0 = enter m c from phi_first m c, scopedRest0_eq c]
  unfold enter Within scratch
  iintro ⟨HS, Hr, -, HK⟩
  iframe HK HS Hr

theorem ring_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V₂ m c) ∗ Pipeline.ownSems0 osem c ∗ After c) := by
  rw [show (pdats m 0 c).Φ (Fin.last _) = leave c from phi_last m c, scopedRest0_eq c, ownSems_sixes,
    show (StableHlo.held (c.tc : Thread nD τ) ∅ (V₂ m c) : sProp 𝕄) = BI.emp from BI.bigSep_empty]
  unfold leave After scratch
  iintro ⟨HB, HO, HS, Hr⟩
  isplitl [HS]; · iexact HS
  isplitl [Hr]; · iexact Hr
  isplitr; · iempintro
  isplitl [HO]; · iexact HO
  iexact HB

/-! ## The arrays around the launch -/

theorem share_full (c : Dev nD) (w : Fin cfg0.W) : (dat m c).share w = fullShare := by unfold Dat.share; split <;> rfl

/-- The launch's one block of a whole buffer is all of it. -/
theorem covers_block (b : Ref sig .tc) (off : Fin b.ty.shape.rank → Nat) (h : ∀ a, off a = 0)
    (inb : ∀ a, off a + b.ty.shape.size a ≤ b.ty.shape.size a) :
    ((Memref.whole b).access (Rect.unit off b.ty.shape.size inb) : View sig .tc _ _ _).set = Finset.univ := by
  obtain rfl : off = fun _ => 0 := funext h
  exact Memref.set_access_whole b

theorem arrays_end (c : Dev nD) (w : Fin cfg0.W) : (dat m c).arrAt w cfg0.N = V₂ m c (Proc.devRef .tc (Pipeline.arrRef spec0 w)) := by
  match w with
  | ⟨0, _⟩ => exact ((dat m c).arrAt_in (0 : Fin 3) rfl _).trans (V₂_ne m c (Proc.devRef .tc main_v1) (by decide)).symm
  | ⟨1, _⟩ => exact ((dat m c).arrAt_in (1 : Fin 3) rfl _).trans (V₂_ne m c (Proc.devRef .tc main_arg1) (by decide)).symm
  | ⟨2, _⟩ =>
    refine Eq.trans ?_ (V₂_out m c).symm
    refine (dat m c).arrAt_eq_of_cover (2 : Fin 3) (result m c) (fun t _ => ?_) fun i => ⟨t0_0, flush0_2 t0_0, ?_⟩
    · exact (read_block main_v2 (result m c) (fun a => 0 * S2x512x4096.size a) (fun a => Nat.zero_mul _)
        fun a => Nat.le_of_eq (by rw [Nat.zero_mul, Nat.zero_add])).symm
    · exact (covers_block main_v2 (fun a => 0 * S2x512x4096.size a) (fun a => Nat.zero_mul _)
        fun a => Nat.le_of_eq (by rw [Nat.zero_mul, Nat.zero_add])).symm ▸ Finset.mem_univ i

theorem owing_level (c : Dev nD) (g : GSem nD τ sig) (i : Unit) (h : 0 < O₀ c g i) : i ∈ L g ∧ 0 < lv g i := by
  unfold O₀ at h
  rw [Pi.add_apply, Pi.add_apply, Finsupp.add_apply, Finsupp.add_apply] at h
  rcases Nat.add_pos_iff_pos_or_pos.mp h with h | h
  · rcases Nat.add_pos_iff_pos_or_pos.mp h with h | h
    · obtain ⟨p, -, rfl⟩ := owing_pos c allSix g i h
      exact ⟨by rw [L_tc]; exact Finset.mem_singleton_self _, by rw [lv_recv]; omega⟩
    · rw [tallyAt_apply] at h
      split at h
      · next e => rw [e.1]; exact ⟨by rw [L_tc]; exact Finset.mem_singleton_self _, by rw [lv_bar]; decide⟩
      · exact absurd h (Nat.lt_irrefl 0)
  · rw [tallyAt_apply] at h
    split at h
    · next e => rw [e.1]; exact ⟨by rw [L_tc]; exact Finset.mem_singleton_self _, by rw [lv_bar]; decide⟩
    · exact absurd h (Nat.lt_irrefl 0)

theorem owed_level (c : Dev nD) (t : Fin (cfg0.N + 1)) (g : GSem nD τ sig) (i : Unit) (h : 0 < (dat m c).owed t g i) :
    i ∈ L g ∧ (0 : ℕ) < lv g i := by
  have e : (dat m c).owed t = if t.val = 0 then O₀ c else 0 := rfl
  rw [e] at h
  split at h
  · exact owing_level c g i h
  · exact absurd h (Nat.lt_irrefl 0)

/-- The staging semaphores are below every cell of the ring. -/
theorem staging_level (c : Dev nD) (w : Fin cfg0.W) (s : Fin (cfg0.win w).nbuf) :
    lv ((c : Thread nD τ), .dma ((cfg0.win w).sem s)) () ≤ 0 := by
  match w, s with
  | ⟨0, _⟩, ⟨0, _⟩ => exact Nat.le_of_eq rfl
  | ⟨1, _⟩, ⟨0, _⟩ => exact Nat.le_of_eq rfl
  | ⟨2, _⟩, ⟨0, _⟩ => exact Nat.le_of_eq rfl

/-- The buffers that the launch leaves alone. -/
abbrev aside : Finset (DevRef τ sig) := Pipeline.ucRefs τ sig \ Pipeline.arrRefs (τ := τ) spec0

theorem arr_sub : Pipeline.arrRefs (τ := τ) spec0 ⊆ Pipeline.ucRefs τ sig := by decide

set_option backward.isDefEq.respectTransparency.types false in
def launch : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ aside (Finset.empty_subset _) launch0.toP rfl (fun c => (step_obligation m c).loose)
    (fun _ => 0) O₀ (fun c => (owed_first m c).trans (zero_add _).symm) (owed_last m) (fun _ => rfl) (share_full m)
    (V₁ m) (V₂ m) (fun c b hb => V₂_ne m c b fun e => by subst e; revert hb; decide)
    (Before m) After (Within m) After (ring_open m) (ring_in m) (ring_out m)
    (fun c => by iintro H; imodintro; iexact H)
    (fun _ => 0)
    ⟨fun c w s => by rw [L_tc]; exact Finset.mem_singleton_self _, fun c w s => staging_level c w s, fun c t g i h => owed_level m c t g i h⟩
    (fun _ => iprop(emp))
    (fun _ _ => rfl) (arrays_end m)

/-! ## The two host segments and the order of the three -/

/-- What a device carries besides its buffers up to the launch, and from there on. -/
def carried (c : Dev nD) : sProp 𝕄 := iprop(Before m c ∗ (∃ r, prngReg c r) ∗ owed c (O₀ c))
def freed (c : Dev nD) : sProp 𝕄 := iprop(After c ∗ owed c 0)

theorem ops_in (ops : List (HloOp τ sig (Elt F))) (h : ops.Forall fun op => op.bufs ⊆ StableHlo.tcRefs τ sig) :
    ∀ op ∈ ops, op.bufs ⊆ Pipeline.ucRefs τ sig := fun op hop =>
  Pipeline.sub_ucRefs op (List.forall_iff_forall_mem.mp h op hop)

def reshaping : ℍ :=
  Pipeline.HostSeg.ofOps _ _ _ _ _ (Pipeline.ucRefs τ sig) hostOps0 (ops_in _ hostOps0_sub)
    (fun op h => by rw [List.mem_singleton.mp h]; rfl) (V₀ m) (carried m)
def converting : ℍ :=
  Pipeline.HostSeg.ofOps _ _ _ _ _ (Pipeline.ucRefs τ sig) hostOps1 (ops_in _ hostOps1_sub)
    (fun op h => by rw [List.mem_singleton.mp h]; rfl) (V₂ m) freed

theorem launch_pre (c : Dev nD) : iprop(StableHlo.held (c : Thread nD τ) (Pipeline.ucRefs τ sig) (V₁ m c) ∗ carried m c) ⊢ (launch m).pre c := by
  show _ ⊢ iprop(StableHlo.held (c.tc : Thread nD τ) (Pipeline.arrRefs (τ := τ) spec0) (V₁ m c) ∗ (∃ r, prngReg c r)
    ∗ (StableHlo.held (c.tc : Thread nD τ) aside (V₁ m c) ∗ emp) ∗ Before m c ∗ ∃ Wd, owes (c : Thread nD τ) (0 + O₀ c) Wd)
  rw [StableHlo.held_sub_split (c.tc : Thread nD τ) arr_sub (V₁ m c), zero_add]
  unfold carried owed
  iintro ⟨⟨HA, HS⟩, HB, Hr, HO⟩
  isplitl [HA]; · iexact HA
  isplitl [Hr]; · iexact Hr
  isplitl [HS]
  · isplitl [HS]; · iexact HS
    iempintro
  isplitl [HB]; · iexact HB
  iexact HO

theorem launch_post (c : Dev nD) : (launch m).post c ⊢ iprop(StableHlo.held (c : Thread nD τ) (Pipeline.ucRefs τ sig) (V₂ m c) ∗ freed c) := by
  show iprop(StableHlo.held (c.tc : Thread nD τ) (Pipeline.arrRefs (τ := τ) spec0) (V₂ m c) ∗ (∃ r, prngReg c r)
    ∗ (StableHlo.held (c.tc : Thread nD τ) aside (V₂ m c) ∗ emp) ∗ After c ∗ ∃ Wd, owes (c : Thread nD τ) (0 : CellTallies nD τ sig Unit) Wd) ⊢ _
  rw [StableHlo.held_sub_split (c.tc : Thread nD τ) arr_sub (V₂ m c)]
  unfold freed owed
  iintro ⟨HA, -, ⟨HS, -⟩, HB, HO⟩
  isplitl [HA HS]
  · isplitl [HA]; · iexact HA
    iexact HS
  isplitl [HB]; · iexact HB
  iexact HO

/-- The program's segments, in order. -/
def segs : List (Pipeline.Seg (pcfgs (F := F)) adm (pdats m) () defs₀ 𝒱₀ L lv) :=
  [.host (reshaping m), .region (launch m), .host (converting m)]

theorem main_run (c : Dev nD) : main (F := F) c = Pipeline.Seg.run (segs m) :=
  main_segs adm (pdats m) () 𝒱₀ L lv (reshaping m) (converting m) (launch m) rfl rfl c

end Cert.Ring
-- ==== Proof.Launch.lean ====
/- The whole program from its start: the bookkeeping is set up, dealt to the devices, and every execution ends with
   each device's result in place and every semaphore at zero. -/
module

public import proofs.«01_k».proof.Proof.Segments

@[expose] public section

noncomputable section

namespace Cert.Ring

open Idealize.ShloMosaic Idealize.ShloMosaic.TcCoe Idealize.ShloMosaic.Rounds
open Idealize.ShloMosaic.Smoke (bigSep_pair bigSep_unpair)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The bookkeeping at the start -/

def u₀ : UU :=
  (initOf (Pipeline.cells (Pipeline.pin (pcfgs (F := F)) adm) cellOf_inj) (Pipeline.launchToks (Pipeline.pin (pcfgs (F := F)) adm) cellOf_inj),
    launchOf barCells ownCells ringToks)

/-- The ring's bookkeeping as one resource. -/
def ringStart : sProp 𝕄 := BI.own (ER (launchOf barCells ownCells ringToks))

/-- It is held by device 0 until it is dealt. -/
def kept₀ (c : Dev nD) : sProp 𝕄 := if c = 0 then ringStart else BI.emp

theorem kept₀_all : (bigSep Finset.univ fun c : Dev nD => (kept₀ c : sProp 𝕄)) = ringStart := by
  rw [bigSep_univ_at _ (0 : Dev nD), bigSep_congr (s := Finset.univ.erase (0 : Dev nD)) (Φ := kept₀) (Ψ := fun _ => (BI.emp : sProp 𝕄))
    fun c hc => if_neg (Finset.ne_of_mem_erase hc), BI.bigSep_emp_const]
  unfold kept₀
  rw [if_pos rfl]
  exact BI.equiv_iff.mp sep_emp

/-- What every device may consult. -/
def known (K : GSem nD τ sig → ℕ) : sProp 𝕄 := iprop(invs (opA m) (opW m) K ∗ bigSep barCells fun g => reached ER g 0)

instance known_persistent (K : GSem nD τ sig → ℕ) : BI.Persistent (known m K) := by unfold known; infer_instance

theorem reached_bar (c : Dev nD) : (bigSep barCells fun g => (reached ER g 0 : sProp 𝕄)) ⊢ reached ER (barC c) 0 :=
  bigSep_elim (Finset.mem_map_of_mem barEmb (Finset.mem_univ c))

/-- What one device alone is dealt. -/
def hand (c : Dev nD) : sProp 𝕄 :=
  iprop(atPos ER (barC c) 0 ∅ 0 ∗ ((six fun s b => openTok ER (sendC c s b)) ∗ six fun s b => openTok ER (recvC c s b)) ∗ pays c)

/-- What a device has at the start besides the ring's bookkeeping. -/
def stock (c : Dev nD) : sProp 𝕄 :=
  iprop(StableHlo.held (c : Thread nD τ) (Pipeline.ucRefs τ sig) (V₀ m c) ∗ credits c ∗ owed c (O₀ c) ∗ ∃ r, prngReg c r)

abbrev atStart (c : Dev nD) : sProp 𝕄 := iprop(StableHlo.held (c : Thread nD τ) (Pipeline.ucRefs τ sig) (V₀ m c) ∗ carried m c)
abbrev atEnd (c : Dev nD) : sProp 𝕄 := iprop(StableHlo.held (c : Thread nD τ) (Pipeline.ucRefs τ sig) (V₃ m c) ∗ semVal (barC c) 0)

theorem start_of (K : GSem nD τ sig → ℕ) (c : Dev nD) : iprop(known m K ∗ (hand c ∗ stock m c)) ⊢ atStart m c := by
  unfold known hand stock atStart carried Before dealt
  iintro ⟨⟨#HI, #HR⟩, ⟨HA, HO, HT⟩, Hh, HC, HW, Hp⟩
  isplitl [Hh]; · iexact Hh
  isplitl [HA HO HT HC]
  · isplitl [HA HO HT]
    · iexists K
      isplitr; · iexact HI
      isplitr
      · isplitr
        · iapply (reached_bar (F := F) (lf c)); iexact HR
        · iapply (reached_bar (F := F) (rt c)); iexact HR
      isplitl [HA]; · iexact HA
      isplitl [HO]; · iexact HO
      iexact HT
    iexact HC
  isplitl [Hp]; · iexact Hp
  iexact HW

theorem bar_unscoped (c : Dev nD) : (unscopedSems0 c : sProp 𝕄) = semVal (barC c) 0 := by
  unfold unscopedSems0
  rw [show (Finset.univ.filter fun sm : SemLoc sig => ¬ sm.isScoped .tc) = {SemLoc.reg barS} from by decide, BI.bigSep_singleton]

theorem only_bar : ∀ sm : SemLoc sig, sm.isScoped .tc = false → sm = .reg barS := by decide

theorem dealing :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ kept₀ c)) ∗ levAts L lv)
      ⊢ (|={Set.univ}=> bigSep Finset.univ (atStart m) : sProp 𝕄) := by
  have each (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ kept₀ c)
      ⊢ (iprop(stock m c ∗ (semVal (barC c) 0 ∗ kept₀ c)) : sProp 𝕄) := by
    rw [show unscopedBufs c (fun b => m ((c : Thread nD τ).loc b)) = StableHlo.held (c : Thread nD τ) (Pipeline.ucRefs τ sig) (V₀ m c)
        from Pipeline.unscopedBufs_held c (V₀ m c), bar_unscoped]
    unfold stock owed
    iintro ⟨Hh, HB, HO, HC, Hp, HG⟩
    ihave HC := (credits_dealt (F := F) c) $$ HC
    isplitl [Hh HC HO Hp]
    · isplitl [Hh]; · iexact Hh
      isplitl [HC]; · iexact HC
      isplitl [HO]; · iexists ∅; iexact HO
      iexists (ρ c); iexact Hp
    isplitl [HB]; · iexact HB
    iexact HG
  have bars : bigSep Finset.univ (fun c : Dev nD => (semVal (barC c) 0 : sProp 𝕄)) ⊢ bigSep barCells (fun g => (semVal g 0 : sProp 𝕄)) :=
    Entails.of_eq (bar_devices (F := F) fun g => semVal g 0).symm
  have places : bigSep barCells (fun g => (atPos ER g 0 ∅ 0 : sProp 𝕄)) ⊢ bigSep Finset.univ (fun c : Dev nD => (atPos ER (barC c) 0 ∅ 0 : sProp 𝕄)) :=
    Entails.of_eq (bar_devices (F := F) fun g => atPos ER g 0 ∅ 0)
  have rights : bigSep ownCells (fun g => (openTok ER g : sProp 𝕄))
      ⊢ bigSep Finset.univ (fun c : Dev nD => iprop((six fun s b => openTok ER (sendC c s b)) ∗ six fun s b => openTok ER (recvC c s b))) :=
    Entails.of_eq (own_devices (F := F) fun g => openTok ER g)
  have all : (bigSep Finset.univ fun c : Dev nD => iprop(unscopedBufs c (fun b => m ((c : Thread nD τ).loc b)) ∗ unscopedSems0 c
        ∗ owes (c : Thread nD τ) (O₀ c) ∅ ∗ Pipeline.launchCred O₀ c ∗ prngReg c (ρ c) ∗ kept₀ c))
      ⊢ (bigSep Finset.univ fun c : Dev nD => iprop(stock m c ∗ (semVal (barC c) 0 ∗ kept₀ c)) : sProp 𝕄) := bigSep_mono fun c _ => each c
  iintro ⟨H, -⟩
  ihave H := all $$ H
  ihave H := bigSep_unpair $$ H; icases H with ⟨HS, H⟩
  ihave H := bigSep_unpair $$ H; icases H with ⟨HB, HG⟩
  ihave HG := (Entails.of_eq (kept₀_all (F := F))) $$ HG
  unfold ringStart
  imod (Rounds.fund_launch ER (rd (opA m) (opW m)) cells_disjoint (fun g _ h => h) ringToks) $$ [HB HG] with ⟨%K, -, #HI, #HR, HA, HO, HT⟩
  · isplitl [HB]
    · iapply bars $$ HB
    · iexact HG
  imodintro
  iapply (bigSep_with_persistent (R := known m K) (Φ := fun c => iprop(hand c ∗ stock m c)) fun c _ => start_of m K c)
  isplitr
  · unfold known invs
    isplitr; · iexact HI
    iexact HR
  iapply bigSep_pair
  isplitr [HS]
  · unfold hand
    iapply bigSep_pair; isplitl [HA]; · iapply places $$ HA
    iapply bigSep_pair; isplitl [HO]; · iapply rights $$ HO
    iapply (toks_dealt (F := F)) $$ HT
  · iexact HS

theorem held_five (c : Dev nD) (W : Valuation τ sig (Elt F)) : (StableHlo.held (c : Thread nD τ) (Pipeline.ucRefs τ sig) W : sProp 𝕄)
    = iprop(pt c main_arg0 (W main_arg0) ∗ pt c main_arg1 (W main_arg1) ∗ pt c main_v1 (W main_v1) ∗ pt c main_v2 (W main_v2) ∗ pt c main_v3 (W main_v3)) := by
  unfold StableHlo.held
  rw [bigSep_eq_bigSepL_of_eq [Proc.devRef .tc main_arg0, Proc.devRef .tc main_arg1, Proc.devRef .tc main_v1, Proc.devRef .tc main_v2,
    Proc.devRef .tc main_v3] (by decide) (by decide)]
  rfl

/-! ## What the buffers hold -/

theorem V₁_ne (c : Dev nD) (b : Ref sig .tc) (h : b ≠ main_v1) : V₁ m c b = m ((c : Thread nD τ).loc b) := by
  show StableHlo.after hostOps0 (V₀ m c) (Proc.devRef .tc b) = _
  rw [StableHlo.after_cons, StableHlo.after_nil, StableHlo.reshape_result_ne _ _ _ _ _ _ _ h]

theorem V₃_arg (c : Dev nD) (b : Ref sig .tc) (h₁ : b ≠ main_v1) (h₂ : b ≠ main_v2) (h₃ : b ≠ main_v3) : V₃ m c b = m ((c : Thread nD τ).loc b) := by
  refine Eq.trans ?_ (V₁_ne m c b h₁)
  refine Eq.trans ?_ (V₂_ne m c (Proc.devRef .tc b) fun e => h₂ (Proc.devRef_injective _ e))
  show StableHlo.after hostOps1 (V₂ m c) (Proc.devRef .tc b) = _
  rw [StableHlo.after_cons, StableHlo.after_nil, StableHlo.unary_result_ne _ _ _ _ _ _ h₃]

/-- The array the program returns: the launch's result, converted. -/
def returned (c : Dev nD) : S2x512x4096.Idx → Elt F .f32 := extf .f32 (result m c) bitsLt_bf16_f32

theorem V₃_out (c : Dev nD) : V₃ m c main_v3 = returned m c := by
  show StableHlo.after hostOps1 (V₂ m c) (Proc.devRef .tc main_v3) = _
  rw [StableHlo.after_cons, StableHlo.after_nil, StableHlo.unary_result]
  unfold returned
  rw [← V₂_out m c]

set_option backward.isDefEq.respectTransparency.types false in
/-- Every execution from zero counters ends; the arguments are unchanged, each device returns its converted result, and
    every semaphore is at zero. -/
theorem run_main : θ_run defs (onTc (τ := τ) (main (F := F))) (s₀ m ρ)
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v3) = returned m c) ∧ r.2.sem = fun _ => 0) :=
  Pipeline.θ_run_regions_kit_sems (pcfgs (F := F)) adm (pdats m) () cellOf_inj EP defs₀ 𝒱₀ L lv m ρ main (segs m)
    (fun c Q => by rw [main_run m c])
    (by simp only [segs, Pipeline.Seg.pipes_host, Pipeline.Seg.pipes_region, Pipeline.Seg.pipes_nil]; decide)
    (O₀ := O₀) (hL := L_of_ne) (G := kept₀) (u₀ := u₀ (F := F))
    (hu₀ := by
      unfold u₀
      iintro Hu
      ihave H := (ownU_pair _ _) $$ Hu
      icases H with ⟨HP, HX⟩
      imodintro
      isplitl [HP]; · iexact HP
      rw [kept₀_all]; unfold ringStart; iexact HX)
    (T₀ := atStart m) (Tₙ := atEnd m)
    (hch := by
      refine ⟨fun c => .rfl, fun c => launch_pre m c, fun c => launch_post m c, fun c => ?_⟩
      show iprop(StableHlo.held (c : Thread nD τ) (Pipeline.ucRefs τ sig) (V₃ m c) ∗ freed c)
        ⊢ iprop(atEnd m c ∗ ∃ W, owes (c : Thread nD τ) (0 : CellTallies nD τ sig Unit) W)
      unfold freed After owed
      iintro ⟨Hh, HB, HO⟩
      isplitr [HO]
      · isplitl [Hh] <;> iassumption
      · iexact HO)
    (hinit := dealing m ρ)
    (QY := fun c s => (s.mem ((c : Thread nD τ).loc main_arg0) = V₃ m c main_arg0 ∧ s.mem ((c : Thread nD τ).loc main_arg1) = V₃ m c main_arg1
        ∧ s.mem ((c : Thread nD τ).loc main_v3) = V₃ m c main_v3) ∧ s.sem (barC c) = 0)
    (hfin := fun c s' => by
      dsimp only [atEnd]; rw [held_five]
      unfold pt
      iintro ⟨⟨⟨H0, H1, -, -, H3⟩, HB⟩, HSI⟩
      icombine HSI H0 gives %h0
      icombine HSI H1 gives %h1
      icombine HSI H3 gives %h3
      icombine HSI HB gives %hb
      imodintro
      isplitr
      · ipureintro
        exact ⟨⟨Buf.eq_of_forall_mem_univ h0, Buf.eq_of_forall_mem_univ h1, Buf.eq_of_forall_mem_univ h3⟩, by simpa using hb⟩
      iexact HSI)
    (hQ := fun s h hs => ⟨fun c => by
        obtain ⟨⟨h0, h1, h3⟩, -⟩ := h c
        exact ⟨h0.trans (V₃_arg m c main_arg0 (by decide) (by decide) (by decide)),
          h1.trans (V₃_arg m c main_arg1 (by decide) (by decide) (by decide)), h3.trans (V₃_out m c)⟩,
      sem_eq_zero hs fun c sm hsm => by
        obtain rfl := only_bar sm hsm
        exact (h c).2⟩)

end Cert.Ring
-- ==== Proof.Same.lean ====
/- The kernel and its ideal reading are one text, so that a run of the one is a run of the other. -/
module

public import proofs.«01_k».proof.Proof.Gen.Kernel
public import proofs.«01_k».proof.Proof.Gen.KernelIdeal

@[expose] public section

namespace Cert.Ring

open Idealize.ShloMosaic

variable {F : FTy → Type} [FloatOps F]

/-- The two bodies are the same program, -/
theorem body_same : @Cert.Kernel.cc0_body F _ Cert.Kernel.Gen.facts = @Cert.KernelIdeal.cc0_body F _ Cert.KernelIdeal.Gen.facts := rfl

/-- so the two tables of bodies agree at their only label, -/
theorem bodies_same : Cert.Kernel.defs₀ (F := F) = Cert.KernelIdeal.defs₀ (F := F) := by
  unfold Cert.Kernel.defs₀ Cert.KernelIdeal.defs₀
  refine congrArg Defs.onTc ?_
  funext ℓ a
  match ℓ, a with
  | 0, (t, s) => rw [body_same]

/-- and so do the tables with the launch's own steps. -/
theorem defs_same : Cert.Kernel.defs (F := F) = Cert.KernelIdeal.defs (F := F) :=
  congrArg (Pipeline.defs Cert.Kernel.pcfgs) bodies_same

end Cert.Ring
-- ==== Proof.BlockValue.lean ====
/- What the blocks hold over the extended reals: a product block's entry is a sum of products, and a sum of slabs is
   the sum of their entries, the roundings between being the identity there. -/
module

public import proofs.«01_k».proof.Proof.Slabs
public import Idealize.ShloMosaic.Lib.MatmulPlain
public import Idealize.ShloMosaic.Lib.ValueIdx

@[expose] public section

noncomputable section

namespace Cert.Ring

open Idealize.ShloMosaic Idealize.ShloMosaic.ValueIdx
open Cert.KernelIdeal Cert.KernelIdeal.Gen

/-- The kernel's product of blocks is the plain one of 512 × 1024 by 1024 × 1024. -/
theorem dims_plain : dot_S512x1024_S1024x1024_S512x1024_1_0_0_1_n_n = DotDims.plain 512 1024 1024 := rfl

/-- An entry of a product block. -/
theorem blockDot_apply (a : Block Ideal) (w : S1024x1024.Idx → Elt Ideal .bf16) (r : Fin 512) (j : Fin 1024) :
    (blockDot (F := Ideal) a w (ix2 r j) : EReal) = ∑ k : Fin 1024, (a (ix2 r k) : EReal) * w (ix2 k j) := by
  unfold blockDot
  rw [truncf_apply, dims_plain]
  unfold matmul
  rw [Ideal.matmul_plain_apply]
  show Ideal.ofBits .f32 0x00000000#32 + _ = _
  rw [Ideal.ofBits_zero_f32, zero_add]

/-- An entry of a product slab: the row at the offset against the weights' column. -/
theorem dotTile_apply (f : S4096x1024.Idx → Elt Ideal .bf16) (w : S1024x4096.Idx → Elt Ideal .bf16) (off : Fin 2 → Nat)
    (inb : ∀ a, off a + S512x1024.size a ≤ S4096x1024.size a) (n : Nat) (h0 : off 0 = n) (h1 : off 1 = 0) (r : Fin 512) (j : Fin 4096)
    (hn : n + r.val < 4096) :
    (dotTile f w off inb (ix2 r j) : EReal) = ∑ k : Fin 1024, (f (ix2 ⟨n + r.val, hn⟩ k) : EReal) * w (ix2 k j) := by
  unfold dotTile tileOf
  refine (blockDot_apply _ _ _ _).trans (Finset.sum_congr rfl fun k _ => ?_)
  refine congrArg₂ (fun x y : EReal => x * y) (congrArg f ?_) (congrArg w ?_)
  · funext a
    apply Fin.ext
    match a with
    | ⟨0, _⟩ => show off 0 + 1 * r.val = n + r.val; omega
    | ⟨1, _⟩ => show off 1 + 1 * k.val = k.val; omega
  · funext a
    apply Fin.ext
    match a with
    | ⟨0, _⟩ => show 0 + 1 * k.val = k.val; omega
    | ⟨1, _⟩ => show j.val / 1024 * 1024 + 1 * (j.val % 1024) = j.val; omega

/-- An entry of a sum of slabs. -/
theorem addTile_apply (V X : Tile Ideal) (p : S512x4096.Idx) : (addTile V X p : EReal) = (V p : EReal) + X p := by
  show (V ((colRect (blockOf p)).emb (inBlock p)) : EReal) + X ((colRect (blockOf p)).emb (inBlock p)) = _
  rw [colRect_inBlock]

end Cert.Ring

end
-- ==== Proof.RingValue.lean ====
/- What a device keeps over the extended reals: the sum of the four partial products of its ring, at the rows of its
   own seat. -/
module

public import proofs.«01_k».proof.Proof.Ring
public import proofs.«01_k».proof.Proof.BlockValue

@[expose] public section

noncomputable section

namespace Cert.Ring

open Idealize.ShloMosaic Idealize.ShloMosaic.ValueIdx
open Cert.KernelIdeal Cert.KernelIdeal.Gen

/-- The device's seat on its ring: its coordinate along the mesh's second axis. -/
def seat (c : Dev nD) : Fin 4 := ⟨c.val / 4 % 4, Nat.mod_lt _ (by decide)⟩

/-- The left neighbour sits one seat before. -/
theorem seat_lf : ∀ c, seat (lf c) = seat c + 3 := by decide +kernel

/-- The rows that the seat `q` keeps of batch `b` start here, -/
abbrev rowBase (b : Fin 2) (q : Fin 4) : Nat := 2048 * b.val + 512 * q.val

/-- and the four products of which they are the sum are taken there: the first on the device three seats before, -/
theorem first_rows : ∀ (b : Fin 2) (c : Dev nD), firstOff (lf (lf (lf c))) b 0 = rowBase b (seat c) := by decide +kernel
/-- and then one on each device up to this one; -/
theorem step0_rows : ∀ (b : Fin 2) (c : Dev nD), stepOff (lf (lf c)) b 0 0 = rowBase b (seat c) := by decide +kernel
theorem step1_rows : ∀ (b : Fin 2) (c : Dev nD), stepOff (lf c) b 1 0 = rowBase b (seat c) := by decide +kernel
theorem step2_rows : ∀ (b : Fin 2) (c : Dev nD), stepOff c b 2 0 = rowBase b (seat c) := by decide +kernel
/-- each takes whole rows. -/
theorem first_cols : ∀ (b : Fin 2) (c : Dev nD), firstOff c b 1 = 0 := by decide +kernel
theorem step_cols : ∀ (s : Fin 3) (b : Fin 2) (c : Dev nD), stepOff c b s 1 = 0 := by decide +kernel

variable (fA : Dev nD → S4096x1024.Idx → Elt Ideal .bf16) (fW : Dev nD → S1024x4096.Idx → Elt Ideal .bf16)

theorem row_lt (b : Fin 2) (q : Fin 4) (r : Fin 512) : rowBase b q + r.val < 4096 := by
  have := b.isLt; have := q.isLt; have := r.isLt; unfold rowBase; omega

/-- The device `d`'s share of entry `(r, j)` of the seat `q`'s rows: its own part of the contraction. -/
def share (b : Fin 2) (q : Fin 4) (r : Fin 512) (j : Fin 4096) (d : Dev nD) : EReal :=
  ∑ k : Fin 1024, (fA d (ix2 ⟨rowBase b q + r.val, row_lt b q r⟩ k) : EReal) * fW d (ix2 k j)

/-- What the device keeps, entry by entry. -/
theorem kept_apply (b : Fin 2) (c : Dev nD) (r : Fin 512) (j : Fin 4096) :
    (kept fA fW b c (ix2 r j) : EReal) = share fA fW b (seat c) r j (lf (lf (lf c))) + share fA fW b (seat c) r j (lf (lf c))
      + share fA fW b (seat c) r j (lf c) + share fA fW b (seat c) r j c := by
  have hk : kept fA fW b c = addTile (addTile (addTile (firstTile fA fW (lf (lf (lf c))) b) (stepTile fA fW (lf (lf c)) b 0))
    (stepTile fA fW (lf c) b 1)) (stepTile fA fW c b 2) := rfl
  rw [hk, addTile_apply, addTile_apply, addTile_apply]
  refine congrArg₂ (fun x y : EReal => x + y) (congrArg₂ (fun x y : EReal => x + y) (congrArg₂ (fun x y : EReal => x + y) ?_ ?_) ?_) ?_
  · exact dotTile_apply _ _ _ _ _ (first_rows b c) (first_cols b _) r j (row_lt b (seat c) r)
  · exact dotTile_apply _ _ _ _ _ (step0_rows b c) (step_cols 0 b _) r j (row_lt b (seat c) r)
  · exact dotTile_apply _ _ _ _ _ (step1_rows b c) (step_cols 1 b _) r j (row_lt b (seat c) r)
  · exact dotTile_apply _ _ _ _ _ (step2_rows b c) (step_cols 2 b _) r j (row_lt b (seat c) r)

end Cert.Ring

end
-- ==== Proof.RefValue.lean ====
/- What the reference computes, entry by entry, and how its sum is cut into four. -/
module

public import proofs.«01_k».proof.Proof.Gen.ReferenceIdeal
public import Idealize.ShloMosaic.Lib.Pointwise.Contract
public import Idealize.ShloMosaic.Lib.Pipeline.Value
public import Idealize.ShloMosaic.Lib.ValueIdx

@[expose] public section

noncomputable section

namespace Cert.Ring

open Idealize.ShloMosaic hiding ix2 ix3 ix4
open Idealize.ShloMosaic.ValueIdx
open Cert.ReferenceIdeal Cert.ReferenceIdeal.Gen

/-- The term `k` of the whole product's entry `(b, s, j)`: the heads' features laid end to end. -/
def term (O : S2x2048x64x64.Idx → EReal) (W : S4096x4096.Idx → EReal) (b : Fin 2) (s : Fin 2048) (j : Fin 4096) (k : Fin 4096) : EReal :=
  O (ix4 b s (⟨k.val / 64, by omega⟩ : Fin 64) (⟨k.val % 64, by omega⟩ : Fin 64)) * W (ix2 k j)

/-- The reference's product of the flattened heads with the weights. -/
def product (O : S2x2048x64x64.Idx → Elt Ideal .bf16) (W : S4096x4096.Idx → Elt Ideal .bf16) : S2x2048x4096.Idx → Elt Ideal .f32 :=
  Host.dotGeneral (F := Ideal) (φ₁ := .bf16) (φ₂ := .bf16) dot_S2x2048x4096_S4096x4096_S2x2048x4096_2_0_01_1_n_n none
    (shapeCast S2x2048x4096 O shapeCasts_S2x2048x64x64_S2x2048x4096) W

/-- Its entry `(b, s, j)` is the sum of the 4096 terms. -/
theorem product_apply (O : S2x2048x64x64.Idx → Elt Ideal .bf16) (W : S4096x4096.Idx → Elt Ideal .bf16) (b : Fin 2) (s : Fin 2048) (j : Fin 4096) :
    (product O W (ix3 b s j) : EReal) = ∑ k : Fin 4096, term O W b s j k := by
  have hd : (product O W (ix3 b s j) : EReal) = Ideal.matmul dot_S2x2048x4096_S4096x4096_S2x2048x4096_2_0_01_1_n_n
      (shapeCast S2x2048x4096 O shapeCasts_S2x2048x64x64_S2x2048x4096) W (fun _ => 0) (ix3 b s j) := rfl
  rw [hd, Ideal.matmul_apply₁_of (a := 2) (K := 4096) _ rfl rfl _ _ _ _ (fun k => ix3 b s k) (fun k => ix2 k j) ?_ ?_, zero_add]
  · refine Finset.sum_congr rfl fun k _ => congrArg (fun x : EReal => x * W (ix2 k j)) ?_
    refine shapeCast_apply O _ (ix3 b s k) _ ?_
    rw [Shape.rowMajor_val_four, Shape.rowMajor_val_three]
    show ((b.val * 2048 + s.val) * 64 + k.val / 64) * 64 + k.val % 64 = (b.val * 2048 + s.val) * 4096 + k.val
    omega
  · intro k; funext a; apply Fin.ext
    match a with
    | ⟨0, _⟩ => rfl
    | ⟨1, _⟩ => rfl
    | ⟨2, _⟩ => rfl
  · intro k; funext a; apply Fin.ext
    match a with
    | ⟨0, _⟩ => rfl
    | ⟨1, _⟩ => rfl

/-- The term `k` of the part that the seat `y` holds. -/
abbrev partIdx (y : Fin 4) (k : Fin 1024) : Fin 4096 := ⟨1024 * y.val + k.val, by omega⟩

/-- A sum of 4096 terms is the sum over the four parts. -/
theorem sum_parts (g : Fin 4096 → EReal) : ∑ k, g k = ∑ y : Fin 4, ∑ k : Fin 1024, g (partIdx y k) := by
  rw [← Equiv.sum_comp (finProdFinEquiv (m := 4) (n := 1024)) g, Fintype.sum_prod_type]
  refine Finset.sum_congr rfl fun y _ => Finset.sum_congr rfl fun k _ => congrArg g (Fin.ext ?_)
  show k.val + 1024 * y.val = 1024 * y.val + k.val
  omega

/-- The four parts may be summed from any seat on. -/
theorem sum_from (G : Fin 4 → EReal) (y : Fin 4) : ∑ q, G q = G (y + 1) + G (y + 2) + G (y + 3) + G y := by
  rw [Fin.sum_univ_four]
  fin_cases y
  · show _ = G 1 + G 2 + G 3 + G 0; ac_rfl
  · show _ = G 2 + G 3 + G 0 + G 1; ac_rfl
  · show _ = G 3 + G 0 + G 1 + G 2; ac_rfl
  · show _ = G 0 + G 1 + G 2 + G 3; rfl

end Cert.Ring

end
-- ==== Proof.Equation.lean ====
/- The equation: where each device holds its part of the heads and of the weights, what it returns is its block of the
   reference's product. -/
module

public import proofs.«01_k».proof.Proof.Launch
public import proofs.«01_k».proof.Proof.RingValue
public import proofs.«01_k».proof.Proof.RefValue
public import Idealize.ShloMosaic.Lib.Layout

@[expose] public section

noncomputable section

namespace Cert.Ring

open Idealize.ShloMosaic hiding ix2 ix3 ix4
open Idealize.ShloMosaic.TcCoe Idealize.ShloMosaic.ValueIdx
open Cert.KernelIdeal Cert.KernelIdeal.Gen

/-- The device's part of the heads: the sixteen of its seat. -/
abbrev headsOf (O : Cert.ReferenceIdeal.S2x2048x64x64.Idx → Elt Ideal .bf16) (c : Dev nD) : S2x2048x16x64.Idx → Elt Ideal .bf16 :=
  Layout.blockN ⟨4, ![2, 2048, 16, 64]⟩ ⟨4, ![2, 2048, 64, 64]⟩ (Layout.meshBlock [2, 4, 4] ![[], [], [1], []] c) O

/-- Its part of the weights: the rows of these heads. -/
abbrev rowsAt (W : Cert.ReferenceIdeal.S4096x4096.Idx → Elt Ideal .bf16) (c : Dev nD) : S1024x4096.Idx → Elt Ideal .bf16 :=
  Layout.blockN ⟨2, ![1024, 4096]⟩ ⟨2, ![4096, 4096]⟩ (Layout.meshBlock [2, 4, 4] ![[1], []] c) W

/-- Its block of an array of the reference's shape: the rows of its seat. -/
abbrev blockAt (v : Cert.ReferenceIdeal.S2x2048x4096.Idx → Elt Ideal .f32) (c : Dev nD) : S2x512x4096.Idx → Elt Ideal .f32 :=
  Layout.blockN ⟨3, ![2, 512, 4096]⟩ ⟨3, ![2, 2048, 4096]⟩ (Layout.meshBlock [2, 4, 4] ![[], [1], []] c) v

/-- The mesh coordinate that cuts the arrays is the seat. -/
theorem coord_seat : ∀ c : Dev nD, Layout.meshLin [2, 4, 4] c.val [1] = (seat c).val := by decide +kernel

variable (O : Cert.ReferenceIdeal.S2x2048x64x64.Idx → Elt Ideal .bf16) (W : Cert.ReferenceIdeal.S4096x4096.Idx → Elt Ideal .bf16)

theorem headsOf_apply (c : Dev nD) (b : Fin 2) (s : Fin 2048) (h : Fin 16) (e : Fin 64) :
    headsOf O c (ix4 b s h e) = O (ix4 b s (⟨16 * (seat c).val + h.val, by omega⟩ : Fin 64) e) := by
  refine congrArg O ?_
  funext a
  apply Fin.ext
  match a with
  | ⟨0, _⟩ => show 0 * 2 + b.val = b.val; omega
  | ⟨1, _⟩ => show 0 * 2048 + s.val = s.val; omega
  | ⟨2, _⟩ => show Layout.meshLin [2, 4, 4] c.val [1] * 16 + h.val = 16 * (seat c).val + h.val; rw [coord_seat]; omega
  | ⟨3, _⟩ => show 0 * 64 + e.val = e.val; omega

theorem rowsAt_apply (c : Dev nD) (k : Fin 1024) (j : Fin 4096) : rowsAt W c (ix2 k j) = W (ix2 (partIdx (seat c) k) j) := by
  refine congrArg W ?_
  funext a
  apply Fin.ext
  match a with
  | ⟨0, _⟩ => show Layout.meshLin [2, 4, 4] c.val [1] * 1024 + k.val = 1024 * (seat c).val + k.val; rw [coord_seat]; omega
  | ⟨1, _⟩ => show 0 * 4096 + j.val = j.val; omega

theorem blockAt_apply (v : Cert.ReferenceIdeal.S2x2048x4096.Idx → Elt Ideal .f32) (c : Dev nD) (b : Fin 2) (r : Fin 512) (j : Fin 4096) :
    blockAt v c (ix3 b r j) = v (ix3 b (⟨512 * (seat c).val + r.val, by omega⟩ : Fin 2048) j) := by
  refine congrArg v ?_
  funext a
  apply Fin.ext
  match a with
  | ⟨0, _⟩ => show 0 * 2 + b.val = b.val; omega
  | ⟨1, _⟩ => show Layout.meshLin [2, 4, 4] c.val [1] * 512 + r.val = 512 * (seat c).val + r.val; rw [coord_seat]; omega
  | ⟨2, _⟩ => show 0 * 4096 + j.val = j.val; omega

variable (m : (ℓ : Loc nD τ sig) → Buf (Elt Ideal) ℓ)

/-- The launch's first operand is the device's heads laid out flat, -/
theorem opA_eq (c : Dev nD) : opA m c = shapeCast S4096x1024 (m ((c : Thread nD τ).loc main_arg0)) shapeCasts_S2x2048x16x64_S4096x1024 := by
  show StableHlo.after hostOps0 (V₀ m c) (Proc.devRef .tc main_v1) = _
  rw [StableHlo.after_cons, StableHlo.after_nil, StableHlo.reshape_result]
  rfl

/-- and its second the weights as they come. -/
theorem opW_eq (c : Dev nD) : opW m c = m ((c : Thread nD τ).loc main_arg1) := V₁_ne m c main_arg1 (by decide)

variable (hO : ∀ c : Dev nD, m ((c : Thread nD τ).loc main_arg0) = headsOf O c) (hW : ∀ c : Dev nD, m ((c : Thread nD τ).loc main_arg1) = rowsAt W c)

include hO in
/-- An entry of the first operand is one of the whole array of heads. -/
theorem opA_apply (c : Dev nD) (b : Fin 2) (q : Fin 4) (r : Fin 512) (k : Fin 1024) :
    opA m c (ix2 ⟨rowBase b q + r.val, row_lt b q r⟩ k)
      = O (ix4 b (⟨512 * q.val + r.val, by omega⟩ : Fin 2048) (⟨(partIdx (seat c) k).val / 64, by omega⟩ : Fin 64)
          (⟨(partIdx (seat c) k).val % 64, by omega⟩ : Fin 64)) := by
  rw [opA_eq, hO c]
  refine (shapeCast_apply (headsOf O c) _ _ (ix4 b (⟨512 * q.val + r.val, by omega⟩ : Fin 2048) (⟨k.val / 64, by omega⟩ : Fin 16)
    (⟨k.val % 64, by omega⟩ : Fin 64)) ?_).trans ?_
  · rw [Shape.rowMajor_val_four, Shape.rowMajor_val_two]
    show ((b.val * 2048 + (512 * q.val + r.val)) * 16 + k.val / 64) * 64 + k.val % 64 = (2048 * b.val + 512 * q.val + r.val) * 1024 + k.val
    omega
  · rw [headsOf_apply]
    refine congrArg₂ (fun x y => O (ix4 b (⟨512 * q.val + r.val, by omega⟩ : Fin 2048) x y)) (Fin.ext ?_) (Fin.ext ?_)
    · show 16 * (seat c).val + k.val / 64 = (1024 * (seat c).val + k.val) / 64; omega
    · show k.val % 64 = (1024 * (seat c).val + k.val) % 64; omega

include hO hW in
/-- The device's share of an entry is the part of the reference's sum at its seat. -/
theorem share_eq (d : Dev nD) (b : Fin 2) (q : Fin 4) (r : Fin 512) (j : Fin 4096) :
    share (opA m) (opW m) b q r j d = ∑ k : Fin 1024, term O W b (⟨512 * q.val + r.val, by omega⟩ : Fin 2048) j (partIdx (seat d) k) := by
  refine Finset.sum_congr rfl fun k _ => ?_
  refine congrArg₂ (fun x y : EReal => x * y) (opA_apply O m hO d b q r k) ?_
  rw [opW_eq, hW d]
  exact rowsAt_apply W d k j

include hO hW in
/-- What the device returns is its block of the product. -/
theorem returned_eq (c : Dev nD) : returned m c = blockAt (product O W) c := by
  funext i
  obtain ⟨b, r, j, rfl⟩ : ∃ (b : Fin 2) (r : Fin 512) (j : Fin 4096), i = ix3 b r j := ⟨i 0, i 1, i 2, ValueIdx.eq_ix3 i⟩
  have hk : (returned m c (ix3 b r j) : EReal) = kept (opA m) (opW m) b c (ix2 r j) := rfl
  rw [blockAt_apply, hk, kept_apply, share_eq O W m hO hW, share_eq O W m hO hW, share_eq O W m hO hW, share_eq O W m hO hW]
  refine Eq.trans ?_ ((product_apply O W b _ j).trans ((sum_parts _).trans (sum_from _ (seat c)))).symm
  have h1 : seat (lf (lf (lf c))) = seat c + 1 := by rw [seat_lf, seat_lf, seat_lf, add_assoc, add_assoc]; rfl
  have h2 : seat (lf (lf c)) = seat c + 2 := by rw [seat_lf, seat_lf, add_assoc]; rfl
  rw [h1, h2, seat_lf]

end Cert.Ring

end
-- ==== Proof.lean ====
/- The proof of every claim: the three programs' frames, and that each device of the kernel returns its block of the
   reference's product over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Same
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Over any float values the program ends, leaves its arguments as they were and every semaphore at zero. -/
theorem frame {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
        ∧ r.2.sem = fun _ => 0) :=
  (θ_run Cert.KernelIdeal.defs _ _).mono (fun _ h => ⟨fun c => ⟨(h.1 c).1, (h.1 c).2.1⟩, h.2⟩) (Cert.Ring.run_main m ρ)

/-- The kernel is the same program at machine floats, -/
theorem frame_kernel : Cert.quiescent_Kernel := fun m ρ _ => by
  rw [Cert.Ring.defs_same]
  exact frame (F := Bits) m ρ

/-- its ideal reading the same over the extended reals, -/
theorem frame_ideal : Cert.quiescent_KernelIdeal := fun m ρ _ => frame (F := Ideal) m ρ

/-- and the reference has no semaphore at all. -/
theorem frame_reference : Cert.quiescent_ReferenceIdeal := fun m ρ _ =>
  (θ_run Cert.ReferenceIdeal.defs _ _).mono (fun r h => ⟨fun c => ⟨(h c).2.1, (h c).2.2⟩, sem_eq_zero_of_no_sems (by decide) r.2⟩)
    (Cert.ReferenceIdeal.Value.run m ρ)

/-- From arguments cut along the ring, every device ends holding its block of the reference's product. -/
theorem value : Cert.algebraic_KernelIdeal_ReferenceIdeal := fun m ρ m' ρ' _ h =>
  ⟨Cert.Ring.product (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ hr c => ⟨(hr.1 c).2.2.trans (Cert.Ring.returned_eq _ _ m (fun d => (h d).1) (fun d => (h d).2) c), (hr.1 c).1, (hr.1 c).2.1⟩)
      (Cert.Ring.run_main (F := Ideal) m ρ),
    (θ_run Cert.ReferenceIdeal.defs _ _).mono (fun _ hr => ⟨(hr 0).1, (hr 0).2.1, (hr 0).2.2⟩) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, value⟩

end Cert.Proof

end
